-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal__in_range [hPre__in_range : Cert.Pre__in_range.Facts] (m : (ℓ : Loc Cert.KernelIdeal.nD Cert.KernelIdeal.τ Cert.KernelIdeal.sig) → Buf (Elt Ideal) ℓ) : Prop :=
  ∀ c : Dev Cert.KernelIdeal.nD,
    (Cert.Pre__in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal__in_range [hPre__in_range : Cert.Pre__in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre__in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre__in_range [hKernelIdeal : Cert.KernelIdeal.Facts] [hPre__in_range : Cert.Pre__in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal__in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre__in_range [hReferenceIdeal : Cert.ReferenceIdeal.Facts] [hPre__in_range : Cert.Pre__in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal__in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre__in_range [hKernelIdeal : Cert.KernelIdeal.Facts] [hReferenceIdeal : Cert.ReferenceIdeal.Facts] [hPre__in_range : Cert.Pre__in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal__in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre__in_range : Cert.Pre__in_range.Facts),
    quiescent_Kernel (hKernel := hKernel)
    ∧ quiescent_KernelIdeal (hKernelIdeal := hKernelIdeal)
    ∧ quiescent_KernelIdeal_pre__in_range (hKernelIdeal := hKernelIdeal) (hPre__in_range := hPre__in_range)
    ∧ quiescent_ReferenceIdeal (hReferenceIdeal := hReferenceIdeal)
    ∧ quiescent_ReferenceIdeal_pre__in_range (hReferenceIdeal := hReferenceIdeal) (hPre__in_range := hPre__in_range)
    ∧ preserves_Kernel_KernelIdeal
    ∧ algebraic_KernelIdeal_ReferenceIdeal_pre__in_range (hKernelIdeal := hKernelIdeal) (hReferenceIdeal := hReferenceIdeal) (hPre__in_range := hPre__in_range)
-- ==== Pre__in_range.lean ====
abbrev S1x128x2880 : Shape := ⟨3, ![1, 128, 2880]⟩
abbrev S11520x90 : Shape := ⟨2, ![11520, 90]⟩
abbrev S11520 : Shape := ⟨1, ![11520]⟩
abbrev S_ : Shape := ⟨0, ![]⟩

class Facts : Prop where
  bitsLt_bf16_f32 : FTy.bits .bf16 < FTy.bits .f32
  bcast_S_S1x128x2880 : S_.BroadcastsInDim S1x128x2880 (![] : Fin 0 → Fin S1x128x2880.rank)
  reducesTo_S1x128x2880_S_d0_1_2 : S1x128x2880.ReducesTo [0, 1, 2] S_
  h_S_ : 0 < S_.numel

variable [Facts]

def fn {F : FTy → Type} [FloatOps F] (main_arg0 : FVec F S1x128x2880 .bf16) (main_arg1 : IVec S11520x90 32) (main_arg2 : IVec S11520x90 32) (main_arg3 : FVec F S11520 .bf16) : IVec S_ 1 :=
  let main_v0 : FVec F S1x128x2880 .f32 := (extf .f32 · bitsLt_bf16_f32) main_arg0
  let main_v1 : FVec F S1x128x2880 .f32 := Host.absf main_v0
  let main_cst : FVec F S_ .f32 := constant S_ .f32 0x7F7F0000#32
  let main_v2 : FVec F S1x128x2880 .f32 := broadcastInDim S1x128x2880 ![] bcast_S_S1x128x2880 main_cst
  let main_v3 : IVec S1x128x2880 1 := cmpf .ole main_v1 main_v2
  let main_cst_0 : FVec F S_ .f32 := constant S_ .f32 0x7F800000#32
  let main_v4 : FVec F S1x128x2880 .f32 := broadcastInDim S1x128x2880 ![] bcast_S_S1x128x2880 main_cst_0
  let main_v5 : IVec S1x128x2880 1 := cmpf .oeq main_v1 main_v4
  let main_v6 : IVec S1x128x2880 1 := ori main_v3 main_v5
  let main_c : IVec S_ 1 := constantI S_ 1 1#1
  let main_v7 : IVec S_ 1 := (fun x v => Host.reduce IntOp.andi x v reducesTo_S1x128x2880_S_d0_1_2 h_S_) main_v6 main_c
  main_v7
-- ==== Kernel.lean ====
abbrev S1x128x2880 : Shape := ⟨3, ![1, 128, 2880]⟩
abbrev S11520x90 : Shape := ⟨2, ![11520, 90]⟩
abbrev S11520 : Shape := ⟨1, ![11520]⟩
abbrev S128x2880 : Shape := ⟨2, ![128, 2880]⟩
abbrev S1x11520 : Shape := ⟨2, ![1, 11520]⟩
abbrev S128x11520 : Shape := ⟨2, ![128, 11520]⟩
abbrev S128x90 : Shape := ⟨2, ![128, 90]⟩
abbrev S768x90 : Shape := ⟨2, ![768, 90]⟩
abbrev S1x768 : Shape := ⟨2, ![1, 768]⟩
abbrev S128x768 : Shape := ⟨2, ![128, 768]⟩
abbrev S128x3072 : Shape := ⟨2, ![128, 3072]⟩
abbrev S256x256 : Shape := ⟨2, ![256, 256]⟩
abbrev S1x255 : Shape := ⟨2, ![1, 255]⟩
abbrev S128x256 : Shape := ⟨2, ![128, 256]⟩
abbrev S128x32 : Shape := ⟨2, ![128, 32]⟩
abbrev S128 : Shape := ⟨1, ![128]⟩
abbrev S128x1 : Shape := ⟨2, ![128, 1]⟩
abbrev S128x255 : Shape := ⟨2, ![128, 255]⟩
abbrev S128x64 : Shape := ⟨2, ![128, 64]⟩
abbrev S128x192 : Shape := ⟨2, ![128, 192]⟩
abbrev S6x128 : Shape := ⟨2, ![6, 128]⟩
abbrev S90x128 : Shape := ⟨2, ![90, 128]⟩
abbrev S96x128 : Shape := ⟨2, ![96, 128]⟩
abbrev S96x256 : Shape := ⟨2, ![96, 256]⟩
abbrev S8x256 : Shape := ⟨2, ![8, 256]⟩
abbrev S32x256 : Shape := ⟨2, ![32, 256]⟩
abbrev S1x256 : Shape := ⟨2, ![1, 256]⟩

abbrev nBuf : Space → Nat
  | .hbm => 9
  | .vmem => 12
  | .smem => 0
  | _ => 0

abbrev bufTy : (tb : Table) → Fin (tcTables nBuf tb) → BufTy
  | .hbm, ⟨0, _⟩ => ⟨S1x128x2880, .bf16⟩
  | .hbm, ⟨1, _⟩ => ⟨S11520x90, .i32⟩
  | .hbm, ⟨2, _⟩ => ⟨S11520x90, .i32⟩
  | .hbm, ⟨3, _⟩ => ⟨S11520, .bf16⟩
  | .hbm, ⟨4, _⟩ => ⟨S128x2880, .bf16⟩
  | .hbm, ⟨5, _⟩ => ⟨S1x11520, .bf16⟩
  | .hbm, ⟨6, _⟩ => ⟨S128x11520, .bf16⟩
  | .hbm, ⟨7, _⟩ => ⟨S128x2880, .fp8e4m3⟩
  | .hbm, ⟨8, _⟩ => ⟨S128x90, .f32⟩
  | .local _ .vmem, ⟨0, _⟩ => ⟨S128x2880, .bf16⟩
  | .local _ .vmem, ⟨1, _⟩ => ⟨S768x90, .i32⟩
  | .local _ .vmem, ⟨2, _⟩ => ⟨S768x90, .i32⟩
  | .local _ .vmem, ⟨3, _⟩ => ⟨S768x90, .i32⟩
  | .local _ .vmem, ⟨4, _⟩ => ⟨S768x90, .i32⟩
  | .local _ .vmem, ⟨5, _⟩ => ⟨S1x768, .bf16⟩
  | .local _ .vmem, ⟨6, _⟩ => ⟨S1x768, .bf16⟩
  | .local _ .vmem, ⟨7, _⟩ => ⟨S128x768, .bf16⟩
  | .local _ .vmem, ⟨8, _⟩ => ⟨S128x768, .bf16⟩
  | .local _ .vmem, ⟨9, _⟩ => ⟨S128x2880, .fp8e4m3⟩
  | .local _ .vmem, ⟨10, _⟩ => ⟨S128x90, .f32⟩
  | .local _ .vmem, ⟨11, _⟩ => ⟨S128x3072, .bf16⟩
  | _, _ => ⟨S1x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x90 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x90 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x2880 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x90 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x128x2880 : Shape := ⟨3, ![1, 128, 2880]⟩
abbrev S11520x90 : Shape := ⟨2, ![11520, 90]⟩
abbrev S11520 : Shape := ⟨1, ![11520]⟩
abbrev S128x2880 : Shape := ⟨2, ![128, 2880]⟩
abbrev S1x11520 : Shape := ⟨2, ![1, 11520]⟩
abbrev S128x11520 : Shape := ⟨2, ![128, 11520]⟩
abbrev S128x90 : Shape := ⟨2, ![128, 90]⟩
abbrev S128x90x32 : Shape := ⟨3, ![128, 90, 32]⟩
abbrev S128x90x1 : Shape := ⟨3, ![128, 90, 1]⟩
abbrev S1x1x32 : Shape := ⟨3, ![1, 1, 32]⟩
abbrev S11520x90x1 : Shape := ⟨3, ![11520, 90, 1]⟩
abbrev S11520x90x32 : Shape := ⟨3, ![11520, 90, 32]⟩
abbrev S11520x2880 : Shape := ⟨2, ![11520, 2880]⟩

abbrev nBuf : Space → Nat
  | .hbm => 9
  | .vmem => 7
  | .smem => 0
  | _ => 0

abbrev bufTy : (tb : Table) → Fin (tcTables nBuf tb) → BufTy
  | .hbm, ⟨0, _⟩ => ⟨S1x128x2880, .bf16⟩
  | .hbm, ⟨1, _⟩ => ⟨S11520x90, .i32⟩
  | .hbm, ⟨2, _⟩ => ⟨S11520x90, .i32⟩
  | .hbm, ⟨3, _⟩ => ⟨S11520, .bf16⟩
  | .hbm, ⟨4, _⟩ => ⟨S128x2880, .bf16⟩
  | .hbm, ⟨5, _⟩ => ⟨S1x11520, .bf16⟩
  | .hbm, ⟨6, _⟩ => ⟨S128x11520, .bf16⟩
  | .hbm, ⟨7, _⟩ => ⟨S128x2880, .fp8e4m3⟩
  | .hbm, ⟨8, _⟩ => ⟨S128x90, .f32⟩
  | .local _ .vmem, ⟨0, _⟩ => ⟨S128x2880, .bf16⟩
  | .local _ .vmem, ⟨1, _⟩ => ⟨S11520x90, .i32⟩
  | .local _ .vmem, ⟨2, _⟩ => ⟨S11520x90, .i32⟩
  | .local _ .vmem, ⟨3, _⟩ => ⟨S1x11520, .bf16⟩
  | .local _ .vmem, ⟨4, _⟩ => ⟨S128x11520, .bf16⟩
  | .local _ .vmem, ⟨5, _⟩ => ⟨S128x2880, .fp8e4m3⟩
  | .local _ .vmem, ⟨6, _⟩ => ⟨S128x90, .f32⟩
  | _, _ => ⟨S1x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11520x90 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11520x90 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x11520 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x11520 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2880 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x90 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.RunPoints.lean ====
/- What the two runs of the kernel's body share: the condition of its `scf.if` at a point, the staging and scratch memrefs. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 1 % 15 := Pipeline.Grid.coords_val t 0 (by decide) rfl
    simp only [cond0_0, k0_cond1, e0]
    word_cmp
   : ∀ t : Fin grid0.N, cond0_0 (grid0.coords t) ↔ t.val % 15 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x2880 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x90 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x90 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2880 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x90 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x3072 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.RunA.lean ====
/- The whole-body run of the kernel, first point. -/
module

public import proofs.«01_k».proof.Proof.RunPoints

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run at the first point (its `scf.if` taken): the pieces the outputs and the scratch end with. -/
noncomputable def bodyRunA (c : Dev nD) (i : grid0.Coords) (arg1 : Memref sig .tc .vmem S128x2880 .bf16) (harg1 : arg1.IsWhole) (arg2 : Memref sig .tc .vmem S768x90 .i32) (harg2 : arg2.IsWhole) (arg3 : Memref sig .tc .vmem S768x90 .i32) (harg3 : arg3.IsWhole) (arg4 : Memref sig .tc .vmem S1x768 .bf16) (harg4 : arg4.IsWhole) (arg5 : Memref sig .tc .vmem S128x768 .bf16) (harg5 : arg5.IsWhole) (arg6 : Memref sig .tc .vmem S128x2880 .fp8e4m3) (harg6 : arg6.IsWhole) (arg7 : Memref sig .tc .vmem S128x90 .f32) (harg7 : arg7.IsWhole) (arg8 : Memref sig .tc .vmem S128x3072 .bf16) (harg8 : arg8.IsWhole) (hc0 : cond0_0 i)
    (x0 : Vec F S128x2880 .bf16) (x1 : Vec F S768x90 .i32) (x2 : Vec F S768x90 .i32) (x3 : Vec F S1x768 .bf16) :
    Σ' (L4 : List (View.Piece (Elt F) S128x768 .bf16)) (L5 : List (View.Piece (Elt F) S128x2880 .fp8e4m3)) (L6 : List (View.Piece (Elt F) S128x90 .f32)), { LS0 : List (View.Piece (Elt F) S128x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0_ternary_linear i arg1 harg1 arg2 harg2 arg3 harg3 arg4 harg4 arg5 harg5 arg6 harg6 arg7 harg7 arg8 harg8) K } := by
  refine ⟨?_, ?_, ?_, ?_, fun E K => ?run⟩
  case run =>
    simp only [cc0_ternary_linear_eq_skeleton]; unfold cc0_ternary_linear_skel
    simp only [k0_part101_eq_skeleton, k0_part99_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part100_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS0

end Cert.KernelIdeal.Gen

end
-- ==== Proof.RunB.lean ====
/- The whole-body run of the kernel, points after the first. -/
module

public import proofs.«01_k».proof.Proof.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run at the other points (its `scf.if` not taken): the pieces output 4 ends with; the scratch is read and kept, outputs 5 and 6 are not touched. -/
noncomputable def bodyRunB (c : Dev nD) (i : grid0.Coords) (arg1 : Memref sig .tc .vmem S128x2880 .bf16) (harg1 : arg1.IsWhole) (arg2 : Memref sig .tc .vmem S768x90 .i32) (harg2 : arg2.IsWhole) (arg3 : Memref sig .tc .vmem S768x90 .i32) (harg3 : arg3.IsWhole) (arg4 : Memref sig .tc .vmem S1x768 .bf16) (harg4 : arg4.IsWhole) (arg5 : Memref sig .tc .vmem S128x768 .bf16) (harg5 : arg5.IsWhole) (arg6 : Memref sig .tc .vmem S128x2880 .fp8e4m3) (harg6 : arg6.IsWhole) (arg7 : Memref sig .tc .vmem S128x90 .f32) (harg7 : arg7.IsWhole) (arg8 : Memref sig .tc .vmem S128x3072 .bf16) (harg8 : arg8.IsWhole) (hc0 : ¬cond0_0 i)
    (x0 : Vec F S128x2880 .bf16) (x1 : Vec F S768x90 .i32) (x2 : Vec F S768x90 .i32) (x3 : Vec F S1x768 .bf16) (xs0 : Vec F S128x3072 .bf16) :
    { L4 : List (View.Piece (Elt F) S128x768 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg8 fullShare xs0) -∗ K ⟨⟩))
          ⊢ wp frame (wpE (defs₀ (F := F)) Variants.none c none) E (cc0_ternary_linear i arg1 harg1 arg2 harg2 arg3 harg3 arg4 harg4 arg5 harg5 arg6 harg6 arg7 harg7 arg8 harg8) K } := by
  refine ⟨?_, fun E K => ?run⟩
  case run =>
    simp only [cc0_ternary_linear_eq_skeleton]; unfold cc0_ternary_linear_skel
    simp only [k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg8.read_unread _
    iexact HS0

end Cert.KernelIdeal.Gen

end
-- ==== Proof.Pieces.lean ====
/- What the body's run stores, read from the program's text and written once: each store's value as a function of the
   blocks the body loads — the quantiser's word by word, the products chunk by chunk — and the run's store lists as
   these functions listed in order. -/
module

public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F]

/-! ## The quantiser on one word of 32 columns -/

/-- The block exponent of a word: how many powers of two from `2^-126` up its scaled absolute maximum reaches, less 126;
    zero where it reaches none of them or all. -/
def expoOf (xb : FVec F S128x32 .f32) : IVec S128x1 32 :=
  have s : FVec F S128x1 .f32 := mulf (shapeCast S128x1 (multiReduction .maximumf [1] S128 (absf xb) 0xFF800000#32 reduces_S128x32_S128 (.inl rfl) rfl) shapeCasts_S128_S128x1)
    (broadcast S128x1 (Scalar.ofBits .f32 0x3B124925#32))
  have n : IVec S128x1 32 := shapeCast S128x1 (multiReductionI .add [1] S128
    (extui 32 (cmpf .oge (broadcastTo S128x255 s broadcasts_S128x1_S128x255) (broadcastTo S128x255 (k0_pay4 (F := F)) broadcasts_S1x255_S128x255)) natLt_1_32)
    0#32 reduces_S128x255_S128 rfl) shapeCasts_S128_S128x1
  select (ori (cmpi .eq n (broadcast S128x1 0#32)) (cmpi .eq n (broadcast S128x1 255#32))) (broadcast S128x1 0#32) (subi n (broadcast S128x1 126#32))

/-- The scale of a word: two to its exponent, built from the exponent's bits. -/
def scaleOf (xb : FVec F S128x32 .f32) : FVec F S128x1 .f32 :=
  bitcastToFloat .f32 (shli (addi (expoOf xb) (broadcast S128x1 127#32)) (broadcast S128x1 23#32))

/-- A word over its scale: times two to minus its exponent. -/
def scaledOf (xb : FVec F S128x32 .f32) : FVec F S128x32 .f32 :=
  mulf xb (broadcastTo S128x32 (bitcastToFloat .f32 (shli (subi (broadcast S128x1 127#32) (expoOf xb)) (broadcast S128x1 23#32)) : FVec F S128x1 .f32) broadcasts_S128x1_S128x32)

/-- A word's codes. -/
def codeOf (xb : FVec F S128x32 .f32) : FVec F S128x32 .fp8e4m3 := k0_pay10 (scaledOf xb)

/-- A word put back: its codes times its scale. -/
def deqOf (xb : FVec F S128x32 .f32) : FVec F S128x32 .bf16 := k0_pay11 (scaleOf xb) (scaledOf xb)

/-! ## The words of the input -/

theorem slices_word (w : ℕ) (hw : w < 8) : S128x256.Slices ![0, 32 * w] S128x32 :=
  ⟨rfl, fun a => by fin_cases a <;> simp <;> omega⟩

theorem slices_tail (w : ℕ) (hw : w < 2) : S128x64.Slices ![0, 32 * w] S128x32 :=
  ⟨rfl, fun a => by fin_cases a <;> simp <;> omega⟩

theorem inb_chunk (g : ℕ) (hg : g < 11) : ∀ a, (![0, 256 * g] : Fin 2 → Nat) a + S128x256.size a ≤ S128x2880.size a :=
  fun a => by fin_cases a <;> simp <;> omega

/-- Word `k` of the input, as the body cuts it out of the chunk of 256 columns holding it (the last chunk: of 64). -/
def wordN (X : (r : Rect S128x2880) → r.shape.Idx → Elt F .bf16) (k : ℕ) (hk : k < 90) : FVec F S128x32 .f32 :=
  if h : k < 88 then
    extractStridedSlice S128x32 ![0, 32 * (k % 8)] (k0_pay5 (X (Rect.unit (s := S128x2880) ![0, 256 * (k / 8)] S128x256.size (inb_chunk (k / 8) (by omega)))))
      (slices_word (k % 8) (by omega))
  else
    extractStridedSlice S128x32 ![0, 32 * (k % 8)]
      (extf .f32 (shapeCast S128x64 (X (Rect.unit (s := S128x2880) ![0, 2816] S128x64.size inb_S128x2880_S128x64_0_2816)) shapeCasts_S128x64_S128x64) bitsLt_bf16_f32 : FVec F S128x64 .f32)
      (slices_tail (k % 8) (by omega))

/-! ## The stores -/

/-- `f (n − 1), …, f 0`: a run's stores, the last first. -/
def downTo {α : Type _} : (n : ℕ) → ((j : ℕ) → j < n → α) → List α
  | 0, _ => []
  | n + 1, f => f n (Nat.lt_succ_self n) :: downTo n fun j h => f j (Nat.lt_succ_of_lt h)

theorem mem_downTo {α : Type _} {p : α} : {n : ℕ} → {f : (j : ℕ) → j < n → α} → (p ∈ downTo n f ↔ ∃ j h, p = f j h)
  | 0, f => by simp [downTo]
  | n + 1, f => by
    rw [downTo, List.mem_cons, mem_downTo]
    constructor
    · rintro (rfl | ⟨j, h, rfl⟩)
      · exact ⟨n, _, rfl⟩
      · exact ⟨j, _, rfl⟩
    · rintro ⟨j, h, rfl⟩
      by_cases hj : j = n
      · subst hj; exact .inl rfl
      · exact .inr ⟨j, by omega, rfl⟩

theorem inb_scale (k : ℕ) (hk : k < 90) : ∀ a, (![0, k] : Fin 2 → Nat) a + S128x1.size a ≤ S128x90.size a :=
  fun a => by fin_cases a <;> simp <;> omega

theorem inb_code (k : ℕ) (hk : k < 90) : ∀ a, (![0, 32 * k] : Fin 2 → Nat) a + S128x32.size a ≤ S128x2880.size a :=
  fun a => by fin_cases a <;> simp <;> omega

theorem inb_xd (g : ℕ) (hg : g < 12) : ∀ a, (![0, 256 * g] : Fin 2 → Nat) a + S128x256.size a ≤ S128x3072.size a :=
  fun a => by fin_cases a <;> simp <;> omega

/-- The scales' stores. -/
def scalePieces (X : (r : Rect S128x2880) → r.shape.Idx → Elt F .bf16) : List (View.Piece (Elt F) S128x90 .f32) :=
  downTo 90 fun k hk => ⟨Rect.unit (s := S128x90) ![0, k] S128x1.size (inb_scale k hk), scaleOf (wordN X k hk)⟩

/-- The codes' stores. -/
def codePieces (X : (r : Rect S128x2880) → r.shape.Idx → Elt F .bf16) : List (View.Piece (Elt F) S128x2880 .fp8e4m3) :=
  downTo 90 fun k hk => ⟨Rect.unit (s := S128x2880) ![0, 32 * k] S128x32.size (inb_code k hk), codeOf (wordN X k hk)⟩

/-- The words of chunk `g` put back, side by side (the last chunk: two words, then zeros). -/
def deqChunk (X : (r : Rect S128x2880) → r.shape.Idx → Elt F .bf16) (g : ℕ) (hg : g < 12) : FVec F S128x256 .bf16 :=
  if h : g < 11 then
    concatenate S128x256 1 [⟨S128x32, deqOf (wordN X (8 * g + 0) (by omega))⟩, ⟨S128x32, deqOf (wordN X (8 * g + 1) (by omega))⟩,
      ⟨S128x32, deqOf (wordN X (8 * g + 2) (by omega))⟩, ⟨S128x32, deqOf (wordN X (8 * g + 3) (by omega))⟩,
      ⟨S128x32, deqOf (wordN X (8 * g + 4) (by omega))⟩, ⟨S128x32, deqOf (wordN X (8 * g + 5) (by omega))⟩,
      ⟨S128x32, deqOf (wordN X (8 * g + 6) (by omega))⟩, ⟨S128x32, deqOf (wordN X (8 * g + 7) (by omega))⟩]
      concatenates_S128x32_S128x32_S128x32_S128x32_S128x32_S128x32_S128x32_S128x32_S128x256_d1
  else
    concatenate S128x256 1 [⟨S128x32, deqOf (wordN X (8 * g + 0) (by omega))⟩, ⟨S128x32, deqOf (wordN X (8 * g + 1) (by omega))⟩,
      ⟨S128x192, broadcast S128x192 (Scalar.ofBits .bf16 0x0000#16)⟩]
      concatenates_S128x32_S128x32_S128x192_S128x256_d1

/-- Chunk `g` of the scratch: the words put back, their columns permuted by a product. -/
def xdChunk (X : (r : Rect S128x2880) → r.shape.Idx → Elt F .bf16) (g : ℕ) (hg : g < 12) : FVec F S128x256 .bf16 :=
  shapeCast S128x256 (truncf .bf16 (matmul dot_S128x256_S256x256_S128x256_1_0_0_1_n_n none (deqChunk X g hg) (k0_pay3 k0_pay2)
    (constant S128x256 .f32 0x00000000#32)) bitsLt_bf16_f32) shapeCasts_S128x256_S128x256

/-- The scratch's stores. -/
def xdPieces (X : (r : Rect S128x2880) → r.shape.Idx → Elt F .bf16) : List (View.Piece (Elt F) S128x3072 .bf16) :=
  downTo 12 fun g hg => ⟨Rect.unit (s := S128x3072) ![0, 256 * g] S128x256.size (inb_xd g hg), xdChunk X g hg⟩

/-! ## The products -/

theorem inb_mask (n : ℕ) (hn : n < 6) : ∀ a, (![128 * n, 0] : Fin 2 → Nat) a + S128x90.size a ≤ S768x90.size a :=
  fun a => by fin_cases a <;> simp <;> omega

theorem inb_alpha (n : ℕ) (hn : n < 3) : ∀ a, (![0, 256 * n] : Fin 2 → Nat) a + S1x256.size a ≤ S1x768.size a :=
  fun a => by fin_cases a <;> simp <;> omega

theorem inb_y (n : ℕ) (hn : n < 3) : ∀ a, (![0, 256 * n] : Fin 2 → Nat) a + S128x256.size a ≤ S128x768.size a :=
  fun a => by fin_cases a <;> simp <;> omega

theorem slices_sub (g : ℕ) (hg : g < 12) : S96x256.Slices ![8 * g, 0] S8x256 :=
  ⟨rfl, fun a => by fin_cases a <;> simp <;> omega⟩

/-- 128 rows of packed words, transposed, six rows of zeros under them. -/
def packT (M : (r : Rect S768x90) → r.shape.Idx → Elt F .i32) (n : ℕ) (hn : n < 6) : IVec S96x128 32 :=
  concatenate S96x128 0 [⟨S90x128, transpose S90x128 [1, 0] (M (Rect.unit (s := S768x90) ![128 * n, 0] S128x90.size (inb_mask n hn))) transposes_S128x90_p1_0_S90x128⟩,
    ⟨S6x128, broadcast S6x128 0#32⟩] concatenates_S90x128_S6x128_S96x128_d0

/-- 256 rows of packed words, transposed: two of these side by side. -/
def packP (M : (r : Rect S768x90) → r.shape.Idx → Elt F .i32) (n : ℕ) (hn : n < 3) : IVec S96x256 32 :=
  concatenate S96x256 1 [⟨S96x128, packT M (2 * n) (by omega)⟩, ⟨S96x128, packT M (2 * n + 1) (by omega)⟩] concatenates_S96x128_S96x128_S96x256_d1

/-- The eight packed words' rows chunk `g` multiplies. -/
def packG (M : (r : Rect S768x90) → r.shape.Idx → Elt F .i32) (n : ℕ) (hn : n < 3) (g : ℕ) (hg : g < 12) : IVec S8x256 32 :=
  extractStridedSlice S8x256 ![8 * g, 0] (packP M n hn) (slices_sub g hg)

/-- The weights at the even bits, mask bit under sign bit. -/
def evenOf (m s : IVec S8x256 32) : IVec S8x256 32 :=
  ori (andi m (broadcast S8x256 0x55555555#32)) (shli (andi s (broadcast S8x256 0x55555555#32)) (broadcast S8x256 1#32))

/-- The weights at the odd bits, mask bit under sign bit. -/
def oddOf (m s : IVec S8x256 32) : IVec S8x256 32 :=
  ori (andi (shrsi m (broadcast S8x256 1#32)) (broadcast S8x256 0x55555555#32)) (andi s (broadcast S8x256 0xAAAAAAAA#32))

/-- Four weights of each word, read as fp8 numbers. -/
def rowOf (c : IVec S8x256 32) (sh : BitVec 32) : FVec F S32x256 .fp8e4m3 :=
  bitcastToFloat .fp8e4m3 (bitcast S32x256 8 (andi (shli c (broadcast S8x256 sh)) (broadcast S8x256 0xC0C0C0C0#32)) bitcasts_S8x256_w32_S32x256_w8)

/-- The weights of a chunk. -/
def ternOf (m s : IVec S8x256 32) : FVec F S256x256 .fp8e4m3 :=
  concatenate S256x256 0 [⟨S32x256, rowOf (evenOf m s) 6#32⟩, ⟨S32x256, rowOf (oddOf m s) 6#32⟩, ⟨S32x256, rowOf (evenOf m s) 4#32⟩,
    ⟨S32x256, rowOf (oddOf m s) 4#32⟩, ⟨S32x256, rowOf (evenOf m s) 2#32⟩, ⟨S32x256, rowOf (oddOf m s) 2#32⟩,
    ⟨S32x256, rowOf (evenOf m s) 0#32⟩, ⟨S32x256, rowOf (oddOf m s) 0#32⟩]
    concatenates_S32x256_S32x256_S32x256_S32x256_S32x256_S32x256_S32x256_S32x256_S256x256_d0

/-- The first `j` chunks' products, summed. -/
def accOf (D : (r : Rect S128x3072) → r.shape.Idx → Elt F .bf16) (M S : (r : Rect S768x90) → r.shape.Idx → Elt F .i32) (n : ℕ) (hn : n < 3) :
    (j : ℕ) → j ≤ 12 → FVec F S128x256 .f32
  | 0, _ => broadcast S128x256 (Scalar.ofBits .f32 0x00000000#32)
  | j + 1, hj => addf (accOf D M S n hn j (by omega))
      (matmul (φ₁ := .bf16) (φ₂ := .fp8e4m3) dot_S128x256_S256x256_S128x256_1_0_0_1_n_n none (D (Rect.unit (s := S128x3072) ![0, 256 * j] S128x256.size (inb_xd j hj)))
        (ternOf (packG M n hn j hj) (packG S n hn j hj)) (constant S128x256 .f32 0x00000000#32))

/-- The first result's stores. -/
def yPieces (D : (r : Rect S128x3072) → r.shape.Idx → Elt F .bf16) (M S : (r : Rect S768x90) → r.shape.Idx → Elt F .i32)
    (A : (r : Rect S1x768) → r.shape.Idx → Elt F .bf16) : List (View.Piece (Elt F) S128x768 .bf16) :=
  downTo 3 fun n hn => ⟨Rect.unit (s := S128x768) ![0, 256 * n] S128x256.size (inb_y n hn),
    k0_pay1 (accOf D M S n hn 12 le_rfl) (k0_pay943 (A (Rect.unit (s := S1x768) ![0, 256 * n] S1x256.size (inb_alpha n hn))))⟩

end Cert.KernelIdeal.Gen

end
-- ==== Proof.PiecesRun.lean ====
/- The run's store lists are the ones written once in `Pieces`, and what they leave in each buffer. -/
module

public import proofs.«01_k».proof.Proof.Pieces

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F]

/-- The run's store lists over what the body reads through its buffers. -/
theorem run_scales_raw (c : Dev nD) (i : grid0.Coords) (arg1 : Memref sig .tc .vmem S128x2880 .bf16) (harg1 : arg1.IsWhole) (arg2 : Memref sig .tc .vmem S768x90 .i32) (harg2 : arg2.IsWhole) (arg3 : Memref sig .tc .vmem S768x90 .i32) (harg3 : arg3.IsWhole) (arg4 : Memref sig .tc .vmem S1x768 .bf16) (harg4 : arg4.IsWhole) (arg5 : Memref sig .tc .vmem S128x768 .bf16) (harg5 : arg5.IsWhole) (arg6 : Memref sig .tc .vmem S128x2880 .fp8e4m3) (harg6 : arg6.IsWhole) (arg7 : Memref sig .tc .vmem S128x90 .f32) (harg7 : arg7.IsWhole) (arg8 : Memref sig .tc .vmem S128x3072 .bf16) (harg8 : arg8.IsWhole) (hc0 : cond0_0 i) (x0 : Vec F S128x2880 .bf16) (x1 : Vec F S768x90 .i32) (x2 : Vec F S768x90 .i32) (x3 : Vec F S1x768 .bf16) :
    (bodyRunA c i arg1 harg1 arg2 harg2 arg3 harg3 arg4 harg4 arg5 harg5 arg6 harg6 arg7 harg7 arg8 harg8 hc0 x0 x1 x2 x3).2.2.1 = scalePieces (fun r => View.readAt (Elt F) arg1.view r.toLoadRect (harg1.unread x0)) := by sl_kernel_rfl

theorem run_codes_raw (c : Dev nD) (i : grid0.Coords) (arg1 : Memref sig .tc .vmem S128x2880 .bf16) (harg1 : arg1.IsWhole) (arg2 : Memref sig .tc .vmem S768x90 .i32) (harg2 : arg2.IsWhole) (arg3 : Memref sig .tc .vmem S768x90 .i32) (harg3 : arg3.IsWhole) (arg4 : Memref sig .tc .vmem S1x768 .bf16) (harg4 : arg4.IsWhole) (arg5 : Memref sig .tc .vmem S128x768 .bf16) (harg5 : arg5.IsWhole) (arg6 : Memref sig .tc .vmem S128x2880 .fp8e4m3) (harg6 : arg6.IsWhole) (arg7 : Memref sig .tc .vmem S128x90 .f32) (harg7 : arg7.IsWhole) (arg8 : Memref sig .tc .vmem S128x3072 .bf16) (harg8 : arg8.IsWhole) (hc0 : cond0_0 i) (x0 : Vec F S128x2880 .bf16) (x1 : Vec F S768x90 .i32) (x2 : Vec F S768x90 .i32) (x3 : Vec F S1x768 .bf16) :
    (bodyRunA c i arg1 harg1 arg2 harg2 arg3 harg3 arg4 harg4 arg5 harg5 arg6 harg6 arg7 harg7 arg8 harg8 hc0 x0 x1 x2 x3).2.1 = codePieces (fun r => View.readAt (Elt F) arg1.view r.toLoadRect (harg1.unread x0)) := by sl_kernel_rfl

theorem run_scratch_raw (c : Dev nD) (i : grid0.Coords) (arg1 : Memref sig .tc .vmem S128x2880 .bf16) (harg1 : arg1.IsWhole) (arg2 : Memref sig .tc .vmem S768x90 .i32) (harg2 : arg2.IsWhole) (arg3 : Memref sig .tc .vmem S768x90 .i32) (harg3 : arg3.IsWhole) (arg4 : Memref sig .tc .vmem S1x768 .bf16) (harg4 : arg4.IsWhole) (arg5 : Memref sig .tc .vmem S128x768 .bf16) (harg5 : arg5.IsWhole) (arg6 : Memref sig .tc .vmem S128x2880 .fp8e4m3) (harg6 : arg6.IsWhole) (arg7 : Memref sig .tc .vmem S128x90 .f32) (harg7 : arg7.IsWhole) (arg8 : Memref sig .tc .vmem S128x3072 .bf16) (harg8 : arg8.IsWhole) (hc0 : cond0_0 i) (x0 : Vec F S128x2880 .bf16) (x1 : Vec F S768x90 .i32) (x2 : Vec F S768x90 .i32) (x3 : Vec F S1x768 .bf16) :
    (bodyRunA c i arg1 harg1 arg2 harg2 arg3 harg3 arg4 harg4 arg5 harg5 arg6 harg6 arg7 harg7 arg8 harg8 hc0 x0 x1 x2 x3).2.2.2.1 = xdPieces (fun r => View.readAt (Elt F) arg1.view r.toLoadRect (harg1.unread x0)) := by sl_kernel_rfl

theorem run_y_raw (c : Dev nD) (i : grid0.Coords) (arg1 : Memref sig .tc .vmem S128x2880 .bf16) (harg1 : arg1.IsWhole) (arg2 : Memref sig .tc .vmem S768x90 .i32) (harg2 : arg2.IsWhole) (arg3 : Memref sig .tc .vmem S768x90 .i32) (harg3 : arg3.IsWhole) (arg4 : Memref sig .tc .vmem S1x768 .bf16) (harg4 : arg4.IsWhole) (arg5 : Memref sig .tc .vmem S128x768 .bf16) (harg5 : arg5.IsWhole) (arg6 : Memref sig .tc .vmem S128x2880 .fp8e4m3) (harg6 : arg6.IsWhole) (arg7 : Memref sig .tc .vmem S128x90 .f32) (harg7 : arg7.IsWhole) (arg8 : Memref sig .tc .vmem S128x3072 .bf16) (harg8 : arg8.IsWhole) (hc0 : cond0_0 i) (x0 : Vec F S128x2880 .bf16) (x1 : Vec F S768x90 .i32) (x2 : Vec F S768x90 .i32) (x3 : Vec F S1x768 .bf16) :
    (bodyRunA c i arg1 harg1 arg2 harg2 arg3 harg3 arg4 harg4 arg5 harg5 arg6 harg6 arg7 harg7 arg8 harg8 hc0 x0 x1 x2 x3).1 = yPieces (fun r => arg8.view.readCov (bodyRunA c i arg1 harg1 arg2 harg2 arg3 harg3 arg4 harg4 arg5 harg5 arg6 harg6 arg7 harg7 arg8 harg8 hc0 x0 x1 x2 x3).2.2.2.1 r.toLoadRect) (fun r => View.readAt (Elt F) arg2.view r.toLoadRect (harg2.unread x1)) (fun r => View.readAt (Elt F) arg3.view r.toLoadRect (harg3.unread x2)) (fun r => View.readAt (Elt F) arg4.view r.toLoadRect (harg4.unread x3)) := by sl_kernel_rfl

theorem run_y_later_raw (c : Dev nD) (i : grid0.Coords) (arg1 : Memref sig .tc .vmem S128x2880 .bf16) (harg1 : arg1.IsWhole) (arg2 : Memref sig .tc .vmem S768x90 .i32) (harg2 : arg2.IsWhole) (arg3 : Memref sig .tc .vmem S768x90 .i32) (harg3 : arg3.IsWhole) (arg4 : Memref sig .tc .vmem S1x768 .bf16) (harg4 : arg4.IsWhole) (arg5 : Memref sig .tc .vmem S128x768 .bf16) (harg5 : arg5.IsWhole) (arg6 : Memref sig .tc .vmem S128x2880 .fp8e4m3) (harg6 : arg6.IsWhole) (arg7 : Memref sig .tc .vmem S128x90 .f32) (harg7 : arg7.IsWhole) (arg8 : Memref sig .tc .vmem S128x3072 .bf16) (harg8 : arg8.IsWhole) (hc0 : ¬cond0_0 i) (x0 : Vec F S128x2880 .bf16) (x1 : Vec F S768x90 .i32) (x2 : Vec F S768x90 .i32) (x3 : Vec F S1x768 .bf16) (xs0 : Vec F S128x3072 .bf16) :
    (bodyRunB c i arg1 harg1 arg2 harg2 arg3 harg3 arg4 harg4 arg5 harg5 arg6 harg6 arg7 harg7 arg8 harg8 hc0 x0 x1 x2 x3 xs0).1 = yPieces (fun r => View.readAt (Elt F) arg8.view r.toLoadRect (harg8.unread xs0)) (fun r => View.readAt (Elt F) arg2.view r.toLoadRect (harg2.unread x1)) (fun r => View.readAt (Elt F) arg3.view r.toLoadRect (harg3.unread x2)) (fun r => View.readAt (Elt F) arg4.view r.toLoadRect (harg4.unread x3)) := by sl_kernel_rfl

/-! ## What the stores leave -/

/-- What the scales' stores leave, of the whole input block. -/
def scOut (x : Vec F S128x2880 .bf16) : Vec F S128x90 .f32 := View.canon (scalePieces fun r => View.ld x r)
/-- What the codes' stores leave. -/
def cdOut (x : Vec F S128x2880 .bf16) : Vec F S128x2880 .fp8e4m3 := View.canon (codePieces fun r => View.ld x r)
/-- What the scratch's stores leave. -/
def xdOut (x : Vec F S128x2880 .bf16) : Vec F S128x3072 .bf16 := View.canon (xdPieces fun r => View.ld x r)
/-- What the first result's stores leave, of the scratch's contents, the two packed blocks and the block of factors. -/
def yOut (d : Vec F S128x3072 .bf16) (x1 x2 : Vec F S768x90 .i32) (x3 : Vec F S1x768 .bf16) : Vec F S128x768 .bf16 :=
  View.canon (yPieces (fun r => View.ld d r) (fun r => View.ld x1 r) (fun r => View.ld x2 r) (fun r => View.ld x3 r))

theorem cover_scale (X : (r : Rect S128x2880) → r.shape.Idx → Elt F .bf16) (y : S128x90.Idx) : ∃ p ∈ scalePieces X, y ∈ p.1.set :=
  View.cover_of_tiledL (scalePieces X) S128x1.size (by sl_kernel_rfl) y
theorem cover_code (X : (r : Rect S128x2880) → r.shape.Idx → Elt F .bf16) (y : S128x2880.Idx) : ∃ p ∈ codePieces X, y ∈ p.1.set :=
  View.cover_of_tiledL (codePieces X) S128x32.size (by sl_kernel_rfl) y
theorem cover_xd (X : (r : Rect S128x2880) → r.shape.Idx → Elt F .bf16) (y : S128x3072.Idx) : ∃ p ∈ xdPieces X, y ∈ p.1.set :=
  View.cover_of_tiledL (xdPieces X) S128x256.size (by sl_kernel_rfl) y
theorem cover_y (D : (r : Rect S128x3072) → r.shape.Idx → Elt F .bf16) (M S : (r : Rect S768x90) → r.shape.Idx → Elt F .i32)
    (A : (r : Rect S1x768) → r.shape.Idx → Elt F .bf16) (y : S128x768.Idx) : ∃ p ∈ yPieces D M S A, y ∈ p.1.set :=
  View.cover_of_tiledL (yPieces D M S A) S128x256.size (by sl_kernel_rfl) y

/-- What a whole buffer's loads read of contents given by their reading. -/
theorem readAt_unread {S : Shape} {e : EltTy} (arg : Memref sig .tc .vmem S e) (harg : arg.IsWhole) (x : Vec F S e) :
    (fun r : Rect S => View.readAt (Elt F) arg.view r.toLoadRect (harg.unread x)) = fun r => View.ld x r := by
  funext r; rw [View.readAt_eq_ld, Memref.IsWhole.read_unread]

section
variable (c : Dev nD) (i : grid0.Coords) (arg1 : Memref sig .tc .vmem S128x2880 .bf16) (harg1 : arg1.IsWhole) (arg2 : Memref sig .tc .vmem S768x90 .i32) (harg2 : arg2.IsWhole) (arg3 : Memref sig .tc .vmem S768x90 .i32) (harg3 : arg3.IsWhole) (arg4 : Memref sig .tc .vmem S1x768 .bf16) (harg4 : arg4.IsWhole) (arg5 : Memref sig .tc .vmem S128x768 .bf16) (harg5 : arg5.IsWhole) (arg6 : Memref sig .tc .vmem S128x2880 .fp8e4m3) (harg6 : arg6.IsWhole) (arg7 : Memref sig .tc .vmem S128x90 .f32) (harg7 : arg7.IsWhole) (arg8 : Memref sig .tc .vmem S128x3072 .bf16) (harg8 : arg8.IsWhole) (x0 : Vec F S128x2880 .bf16) (x1 : Vec F S768x90 .i32) (x2 : Vec F S768x90 .i32) (x3 : Vec F S1x768 .bf16)

theorem run_scales (hc0 : cond0_0 i) (v : View sig .tc .vmem S128x90 .f32) (f : v.ty.Contents (Elt F)) :
    v.read (Elt F) (v.writes (Elt F) f (bodyRunA c i arg1 harg1 arg2 harg2 arg3 harg3 arg4 harg4 arg5 harg5 arg6 harg6 arg7 harg7 arg8 harg8 hc0 x0 x1 x2 x3).2.2.1) = scOut x0 := by
  rw [run_scales_raw, readAt_unread, View.read_writes_eq_canon _ _ _ (cover_scale _)]; rfl

theorem run_codes (hc0 : cond0_0 i) (v : View sig .tc .vmem S128x2880 .fp8e4m3) (f : v.ty.Contents (Elt F)) :
    v.read (Elt F) (v.writes (Elt F) f (bodyRunA c i arg1 harg1 arg2 harg2 arg3 harg3 arg4 harg4 arg5 harg5 arg6 harg6 arg7 harg7 arg8 harg8 hc0 x0 x1 x2 x3).2.1) = cdOut x0 := by
  rw [run_codes_raw, readAt_unread, View.read_writes_eq_canon _ _ _ (cover_code _)]; rfl

theorem run_scratch (hc0 : cond0_0 i) (v : View sig .tc .vmem S128x3072 .bf16) (f : v.ty.Contents (Elt F)) :
    v.read (Elt F) (v.writes (Elt F) f (bodyRunA c i arg1 harg1 arg2 harg2 arg3 harg3 arg4 harg4 arg5 harg5 arg6 harg6 arg7 harg7 arg8 harg8 hc0 x0 x1 x2 x3).2.2.2.1) = xdOut x0 := by
  rw [run_scratch_raw, readAt_unread, View.read_writes_eq_canon _ _ _ (cover_xd _)]; rfl

theorem run_y (hc0 : cond0_0 i) (v : View sig .tc .vmem S128x768 .bf16) (f : v.ty.Contents (Elt F)) :
    v.read (Elt F) (v.writes (Elt F) f (bodyRunA c i arg1 harg1 arg2 harg2 arg3 harg3 arg4 harg4 arg5 harg5 arg6 harg6 arg7 harg7 arg8 harg8 hc0 x0 x1 x2 x3).1) = yOut (xdOut x0) x1 x2 x3 := by
  have h : (fun r : Rect S128x3072 => arg8.view.readCov (bodyRunA c i arg1 harg1 arg2 harg2 arg3 harg3 arg4 harg4 arg5 harg5 arg6 harg6 arg7 harg7 arg8 harg8 hc0 x0 x1 x2 x3).2.2.2.1 r.toLoadRect) = fun r => View.ld (xdOut x0) r := by
    funext r
    rw [run_scratch_raw, readAt_unread arg1 harg1 x0, View.readCov_eq_canon_ld _ _ _ (cover_xd _)]; rfl
  have e := run_y_raw c i arg1 harg1 arg2 harg2 arg3 harg3 arg4 harg4 arg5 harg5 arg6 harg6 arg7 harg7 arg8 harg8 hc0 x0 x1 x2 x3
  rw [h] at e
  rw [e, readAt_unread arg2 harg2 x1, readAt_unread arg3 harg3 x2, readAt_unread arg4 harg4 x3, View.read_writes_eq_canon _ _ _ (cover_y _ _ _ _)]; rfl

theorem run_y_later (hc0 : ¬cond0_0 i) (xs0 : Vec F S128x3072 .bf16) (v : View sig .tc .vmem S128x768 .bf16) (f : v.ty.Contents (Elt F)) :
    v.read (Elt F) (v.writes (Elt F) f (bodyRunB c i arg1 harg1 arg2 harg2 arg3 harg3 arg4 harg4 arg5 harg5 arg6 harg6 arg7 harg7 arg8 harg8 hc0 x0 x1 x2 x3 xs0).1) = yOut xs0 x1 x2 x3 := by
  rw [run_y_later_raw, readAt_unread, readAt_unread, readAt_unread, readAt_unread, View.read_writes_eq_canon _ _ _ (cover_y _ _ _ _)]; rfl
end

end Cert.KernelIdeal.Gen

end
-- ==== Proof.FrameIdeal.lean ====
/- The run of the whole program: what each buffer holds at each point, the body's obligation, and the frame. -/
module

public import proofs.«01_k».proof.Proof.PiecesRun
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Window 0 is the whole first operand: its block is the same at every point. -/
theorem iblk0_const (c : Dev nD) (t t' : Fin cfg0.N) : iblk m c 0 t = iblk m c 0 t' := rfl

/-- The first operand, as the region finds it. -/
def xIn (c : Dev nD) : Vec F S128x2880 .bf16 := iblk m c 0 t0_0

theorem iblk0_eq (c : Dev nD) (t : Fin cfg0.N) : iblk m c 0 t = xIn m c := iblk0_const m c t t0_0

/-- The invariant before position `n`: before the first point the scratch at anything; afterwards at what the first
    point leaves in it. -/
def PhiS (c : Dev nD) : (n : ℕ) → sProp 𝕄
  | 0 => Pipeline.ΦA spec0 c
  | _ + 1 => iprop(iprop(owns (c : Thread nD τ) scM0_0 fullShare (xdOut (xIn m c))) ∗ (∃ r, prngReg c r))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop(owns (c : Thread nD τ) scM0_0 fullShare (xdOut (xIn m c))) ∗ (∃ r, prngReg c r)) := by
  cases n with
  | zero => exact absurd rfl hz
  | succ n => rfl

/-- The proof data: each input's buffer at its block; the first result's at the point's product, the codes' and scales'
    at the whole input's, from the first point on; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yOut (xdOut (xIn m c)) (iblk m c 1 t) (iblk m c 2 t) (iblk m c 3 t)
    | ⟨5, _⟩ => cdOut (xIn m c)
    | ⟨6, _⟩ => scOut (xIn m c)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = yOut (xdOut (xIn m c)) (iblk m c 1 t) (iblk m c 2 t) (iblk m c 3 t) := by dsimp only [dats]
theorem after0_5 (c : Dev nD) (t : Fin cfg0.N) : (dats m 0 c).after 5 t = cdOut (xIn m c) := by dsimp only [dats]
theorem after0_6 (c : Dev nD) (t : Fin cfg0.N) : (dats m 0 c).after 6 t = scOut (xIn m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body stores the codes and the scales at the first point only. -/
theorem idle0_5 (t : Fin cfg0.N) : cfg0.idle 5 (cfg0.grid.coords t) = !decide (t.val = 0) := by
  have hN : t.val < 15 := lt_of_lt_of_eq t.isLt (show cfg0.N = 15 from N_0)
  have h := hcond0_0 t
  show (!(k0_cond1 (grid0.coords t) == 1#1)) = _
  congr 1
  rw [Bool.eq_iff_iff, beq_iff_eq, decide_eq_true_eq]
  exact h.trans ⟨fun h => by omega, fun h => by omega⟩

theorem idle0_6 (t : Fin cfg0.N) : cfg0.idle 6 (cfg0.grid.coords t) = !decide (t.val = 0) := idle0_5 t

/-- After the first point the codes' buffer holds something the body stored: it is written back at the last point only. -/
theorem fresh0_5 (n : ℕ) (hn : n + 1 < 15) : cfg0.fresh 5 (n + 1) = false := by
  induction n with
  | zero =>
    have h0 : 0 < cfg0.N := by rw [show cfg0.N = 15 from N_0]; omega
    rw [Pipeline.Cfg.fresh_succ cfg0 5 0 h0, idle0_5, Bool.or_eq_false_iff]
    refine ⟨?_, by simp⟩
    rw [Bool.eq_false_iff, ne_eq, flush0_5]
    show ¬ 0 % 15 = 14
    omega
  | succ n ih =>
    have h0 : n + 1 < cfg0.N := by rw [show cfg0.N = 15 from N_0]; omega
    rw [Pipeline.Cfg.fresh_succ cfg0 5 (n + 1) h0, ih (by omega), Bool.and_false, Bool.or_false, Bool.eq_false_iff, ne_eq, flush0_5]
    show ¬ (n + 1) % 15 = 14
    omega

/-- So it holds what the first point left. -/
theorem before0_5 (c : Dev nD) (t : Fin cfg0.N) (ht : t.val ≠ 0) (d) : (dats m 0 c).before 5 t d = cdOut (xIn m c) := by
  have hN : t.val < 15 := lt_of_lt_of_eq t.isLt (show cfg0.N = 15 from N_0)
  have hf : cfg0.fresh 5 t.val = false := by
    have := fresh0_5 (t.val - 1) (by omega)
    rwa [show t.val - 1 + 1 = t.val from by omega] at this
  rw [(dats m 0 c).before_out_traj 5 rfl (fun _ _ => rfl) (fun t _ _ _ => by rw [after0_5, after0_5]) t.val t rfl d, hf, after0_5]
  rfl

/-- That is what the obligation asks of it at every point. -/
theorem leaves0_5 (c : Dev nD) (t : Fin cfg0.N) :
    owns (c : Thread nD τ) (ms0_5 t) fullShare (cdOut (xIn m c)) ⊢ (dats m 0 c).leavesExact 5 t := by
  by_cases hz : t.val = 0
  · have hi : cfg0.idle 5 (cfg0.grid.coords t) = false := by rw [idle0_5]; simp [hz]
    unfold Dat.leavesExact; rw [hi, after0_5]
  · unfold Dat.leavesExact
    cases cfg0.idle 5 (cfg0.grid.coords t)
    · dsimp only; rw [after0_5]
    · cases (cfg0.win 5).flush t
      · dsimp only
        iintro H
        iexists (cdOut (xIn m c)); rw [before0_5 m c t hz]; iexact H
      · dsimp only; rw [after0_5]

/-- After the first point the scales' buffer holds something the body stored: it is written back at the last point only. -/
theorem fresh0_6 (n : ℕ) (hn : n + 1 < 15) : cfg0.fresh 6 (n + 1) = false := by
  induction n with
  | zero =>
    have h0 : 0 < cfg0.N := by rw [show cfg0.N = 15 from N_0]; omega
    rw [Pipeline.Cfg.fresh_succ cfg0 6 0 h0, idle0_6, Bool.or_eq_false_iff]
    refine ⟨?_, by simp⟩
    rw [Bool.eq_false_iff, ne_eq, flush0_6]
    show ¬ 0 % 15 = 14
    omega
  | succ n ih =>
    have h0 : n + 1 < cfg0.N := by rw [show cfg0.N = 15 from N_0]; omega
    rw [Pipeline.Cfg.fresh_succ cfg0 6 (n + 1) h0, ih (by omega), Bool.and_false, Bool.or_false, Bool.eq_false_iff, ne_eq, flush0_6]
    show ¬ (n + 1) % 15 = 14
    omega

/-- So it holds what the first point left. -/
theorem before0_6 (c : Dev nD) (t : Fin cfg0.N) (ht : t.val ≠ 0) (d) : (dats m 0 c).before 6 t d = scOut (xIn m c) := by
  have hN : t.val < 15 := lt_of_lt_of_eq t.isLt (show cfg0.N = 15 from N_0)
  have hf : cfg0.fresh 6 t.val = false := by
    have := fresh0_6 (t.val - 1) (by omega)
    rwa [show t.val - 1 + 1 = t.val from by omega] at this
  rw [(dats m 0 c).before_out_traj 6 rfl (fun _ _ => rfl) (fun t _ _ _ => by rw [after0_6, after0_6]) t.val t rfl d, hf, after0_6]
  rfl

/-- That is what the obligation asks of it at every point. -/
theorem leaves0_6 (c : Dev nD) (t : Fin cfg0.N) :
    owns (c : Thread nD τ) (ms0_6 t) fullShare (scOut (xIn m c)) ⊢ (dats m 0 c).leavesExact 6 t := by
  by_cases hz : t.val = 0
  · have hi : cfg0.idle 6 (cfg0.grid.coords t) = false := by rw [idle0_6]; simp [hz]
    unfold Dat.leavesExact; rw [hi, after0_6]
  · unfold Dat.leavesExact
    cases cfg0.idle 6 (cfg0.grid.coords t)
    · dsimp only; rw [after0_6]
    · cases (cfg0.win 6).flush t
      · dsimp only
        iintro H
        iexists (scOut (xIn m c)); rw [before0_6 m c t hz]; iexact H
      · dsimp only; rw [after0_6]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ (dats m 0 c).leavesExact 6 t)

set_option maxHeartbeats 3200000 in
/-- The body at any point: at the first, the run that quantises; at a later one, the run that only multiplies, the codes'
    and scales' buffers left as the first point left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, iblk0_eq]
  rw [show (dats m 0 c).Φ t.succ = PhiS m c (t.val + 1) from rfl, PhiS_pos m c _ (Nat.succ_ne_zero _)]
  rw [show (dats m 0 c).Φ t.castSucc = PhiS m c t.val from rfl]
  have hN : t.val < 15 := lt_of_lt_of_eq t.isLt (show cfg0.N = 15 from N_0)
  by_cases hz : t.val = 0
  · have hc : cond0_0 (grid0.coords t) := (hcond0_0 t).mpr (by omega)
    rw [PhiS_zero m c _ hz, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((bodyRunA c (grid0.coords t) _ _ _ _ _ _ _ _ _ _ _ _ _ _ _ _ hc (xIn m c) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, ⟨%e4, H4⟩, ⟨%e5, H5⟩, ⟨%e6, H6⟩, ⟨%es0, HS0⟩⟩
    isplitl [HS0 Hg]
    · isplitl [HS0]
      · unfold owns; iexists _; isplitr
        swap; · iexact HS0
        ipureintro; exact run_scratch c (grid0.coords t) _ _ _ _ _ _ _ _ _ _ _ _ _ _ _ _ _ _ _ _ hc _ _
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact run_y c (grid0.coords t) _ _ _ _ _ _ _ _ _ _ _ _ _ _ _ _ _ _ _ _ hc _ _
    isplitl [H5]
    · iapply (leaves0_5 m c t); unfold owns; iexists _; isplitr
      swap; · iexact H5
      ipureintro; exact run_codes c (grid0.coords t) _ _ _ _ _ _ _ _ _ _ _ _ _ _ _ _ _ _ _ _ hc _ _
    iapply (leaves0_6 m c t); unfold owns; iexists _; isplitr
    swap; · iexact H6
    ipureintro; exact run_scales c (grid0.coords t) _ _ _ _ _ _ _ _ _ _ _ _ _ _ _ _ _ _ _ _ hc _ _
  · have hc : ¬cond0_0 (grid0.coords t) := fun h => hz (by have := (hcond0_0 t).mp h; omega)
    simp only [before0_5 m c t hz, before0_6 m c t hz]
    rw [PhiS_pos m c _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((bodyRunB c (grid0.coords t) _ _ _ _ _ _ _ _ _ _ _ _ _ _ _ _ hc (xIn m c) (iblk m c 1 t) (iblk m c 2 t) (iblk m c 3 t) (xdOut (xIn m c))).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact run_y_later c (grid0.coords t) _ _ _ _ _ _ _ _ _ _ _ _ _ _ _ _ _ _ _ _ hc _ _ _
    isplitl [H5]
    · iapply (leaves0_5 m c t); iexact H5
    iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 15 := N_0; omega), PhiA0_eq]
  iintro ⟨HS0, Hg⟩
  isplitl [HS0]
  · iexists _; iexact HS0
  iexact Hg

/-! ## The run and the frame -/

-- `θ_run_frame_track`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.FrameBits.lean ====
module

public import proofs.«01_k».proof.Defs
public import proofs.«01_k».proof.Proof.Gen.Kernel
public import proofs.«01_k».proof.Proof.FrameIdeal

/-! The frame of the kernel over bit patterns. The program was idealized with no rewrite, so that
`KernelIdeal` is the text of `Kernel`, and its frame, proved for any reading of the floats, is the frame of `Kernel`. -/

@[expose] public section

set_option maxRecDepth 65536

noncomputable section

namespace Cert.Kernel.Gen

open Idealize.ShloMosaic Idealize.ShloMosaic.TcCoe Idealize.ShloMosaic.Tactic Idealize.SL.Sem

/-- The two statements of the frame over bit patterns are one statement, as the two programs are one text. -/
theorem frame_eq :
    (∀ (m : (ℓ : Loc KernelIdeal.nD KernelIdeal.τ KernelIdeal.sig) → Buf (Elt Bits) ℓ) (ρ : Dev KernelIdeal.nD → PrngReg),
      θ_run (KernelIdeal.defs (F := Bits)) (onTc (τ := KernelIdeal.τ) (KernelIdeal.main (F := Bits))) ⟨m, fun _ => 0, ρ⟩ (fun r => (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3))
        ∧ r.2.sem = fun _ => 0))
    = (∀ (m : (ℓ : Loc nD τ sig) → Buf (Elt Bits) ℓ) (ρ : Dev nD → PrngReg),
      θ_run (defs (F := Bits)) (onTc (τ := τ) (main (F := Bits))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0)) := by
  sl_kernel_rfl

/-- The frame of the kernel over bit patterns. -/
theorem frame : ∀ (m : (ℓ : Loc nD τ sig) → Buf (Elt Bits) ℓ) (ρ : Dev nD → PrngReg),
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_eq.mp (fun m ρ => KernelIdeal.Gen.frame (F := Bits) m ρ)

end Cert.Kernel.Gen

end
-- ==== Proof.QuantMath.lean ====
/- The block exponent, as arithmetic: counting the powers of two a number reaches gives the floor of its logarithm. -/
module

public import Idealize.ShloMosaic.Lib.Pointwise
public import Idealize.ShloMosaic.Lib.IndicatorCount

@[expose] public section

noncomputable section

namespace Cert.Quant

open Idealize.ShloMosaic

/-- The single-precision word of exponent field `n` and nothing else. -/
def powWord (n : ℕ) : BitVec 32 := BitVec.ofNat 32 (n * 2 ^ 23)

theorem powWord_fields (n : ℕ) (h : n < 256) :
    (powWord n).extractLsb' 31 1 = 0#1 ∧ ((powWord n).extractLsb' 23 8).toNat = n ∧ ((powWord n).extractLsb' 0 23).toNat = 0 :=
  (by decide +kernel : ∀ n : Fin 256, (powWord n.val).extractLsb' 31 1 = 0#1 ∧ ((powWord n.val).extractLsb' 23 8).toNat = n.val
    ∧ ((powWord n.val).extractLsb' 0 23).toNat = 0) ⟨n, h⟩

theorem ofInt_sub (a b : ℤ) : BitVec.ofInt 32 a - BitVec.ofInt 32 b = BitVec.ofInt 32 (a - b) := by
  have h := BitVec.ofInt_add (n := 32) (a - b) b
  rw [sub_add_cancel] at h
  rw [h, BitVec.add_sub_cancel]

theorem ofBits_powWord (n : ℕ) (h0 : 0 < n) (h : n < 255) : Ideal.ofBits .f32 (powWord n) = (((2 : ℝ) ^ ((n : ℤ) - 127) : ℝ) : EReal) := by
  obtain ⟨a, b, c⟩ := powWord_fields n (by omega)
  show Ideal.ieee 8 23 (powWord n) = _
  have a' : (powWord n).extractLsb' (8 + 23) 1 = 0#1 := a
  simp only [Ideal.ieee, a', b, c]
  rw [if_neg (by omega), if_neg (by omega)]
  congr 1
  have e : (n : ℤ) - 127 = 23 + ((n : ℤ) - (2 ^ (8 - 1) - 1) - 23) := by norm_num
  rw [e, zpow_add₀ (by norm_num : (2 : ℝ) ≠ 0)]
  norm_num

theorem ofBits_powWord_top : Ideal.ofBits .f32 (powWord 255) = ⊤ := by
  obtain ⟨a, b, c⟩ := powWord_fields 255 (by omega)
  show Ideal.ieee 8 23 (powWord 255) = _
  have a' : (powWord 255).extractLsb' (8 + 23) 1 = 0#1 := a
  simp only [Ideal.ieee, a', b, c]
  simp

/-- A word shifted up to the exponent field. -/
theorem shli_ofNat (n : ℕ) : IntOp.shli .vector (BitVec.ofNat 32 n) 23#32 = powWord n := by
  apply BitVec.eq_of_toNat_eq
  simp [IntOp.shli, powWord, Nat.shiftLeft_eq]

/-- The exponent as the kernel counts it, of a scaled absolute maximum. -/
def expoBits (s : EReal) : BitVec 32 :=
  let n := Finset.univ.fold IntOp.addi (0#32) fun k : Fin 255 => BitVec.setWidth 32 (BitVec.ofBool
    (decide (Ideal.ofBits .f32 (IntOp.shli .vector (IntOp.addi (BitVec.ofNat 32 k.val) 1#32) 23#32) ≤ s)))
  Scalar.select (IntOp.ori (IntOp.cmpi .eq n 0#32) (IntOp.cmpi .eq n 255#32)) 0#32 (IntOp.subi n 126#32)

/-- The exponent as the reference states it. -/
def expoReal (s : EReal) : EReal :=
  Scalar.select (IntOp.andi (BitVec.ofBool (decide (Ideal.ofBits .f32 0x00800000#32 ≤ s)))
      (BitVec.ofBool (decide (s < Ideal.ofBits .f32 0x7F800000#32))))
    (Ideal.liftRound Int.floor (Ideal.div (Ideal.log s) (Ideal.log (Ideal.ofBits .f32 0x40000000#32))) + 1) 0

theorem expoBits_eq (s : EReal) (N : ℕ) (hN : (Finset.univ.filter fun k : Fin 255 => Ideal.ofBits .f32 (powWord (k.val + 1)) ≤ s).card = N) :
    expoBits s = if N = 0 ∨ N = 255 then 0#32 else BitVec.ofInt 32 ((N : ℤ) - 126) := by
  have h255 : N ≤ 255 := by
    rw [← hN]; exact (Finset.card_le_univ _).trans (by simp)
  have hn : (Finset.univ.fold IntOp.addi (0#32) fun k : Fin 255 => BitVec.setWidth 32 (BitVec.ofBool
      (decide (Ideal.ofBits .f32 (IntOp.shli .vector (IntOp.addi (BitVec.ofNat 32 k.val) 1#32) 23#32) ≤ s)))) = BitVec.ofNat 32 N := by
    rw [IndicatorCount.fold_addi_setWidth_eq_card (fun k : Fin 255 => BitVec.ofBool
      (decide (Ideal.ofBits .f32 (IntOp.shli .vector (IntOp.addi (BitVec.ofNat 32 k.val) 1#32) 23#32) ≤ s))), ← hN]
    congr 2
    refine Finset.filter_congr fun k _ => ?_
    have e : IntOp.addi (BitVec.ofNat 32 k.val) 1#32 = BitVec.ofNat 32 (k.val + 1) := (BitVec.ofNat_add _ _).symm
    rw [e, shli_ofNat]
    by_cases hp : Ideal.ofBits .f32 (powWord (k.val + 1)) ≤ s <;> simp [hp]
  unfold expoBits
  simp only [hn]
  have hc (M : ℕ) (hM : M ≤ 255) : IntOp.cmpi .eq (BitVec.ofNat 32 N) (BitVec.ofNat 32 M) = BitVec.ofBool (decide (N = M)) := by
    show BitVec.ofBool (BitVec.ofNat 32 N == BitVec.ofNat 32 M) = _
    congr 1
    rw [Bool.eq_iff_iff, beq_iff_eq, decide_eq_true_iff, ← BitVec.toNat_inj, BitVec.toNat_ofNat, BitVec.toNat_ofNat,
      Nat.mod_eq_of_lt (by omega), Nat.mod_eq_of_lt (by omega)]
  rw [hc 0 (by omega), hc 255 (by omega)]
  by_cases h0 : N = 0
  · subst h0; rfl
  by_cases h1 : N = 255
  · subst h1; rfl
  rw [if_neg (by omega), decide_eq_false h0, decide_eq_false h1]
  show BitVec.ofNat 32 N - 126#32 = _
  rw [← ofInt_sub]
  rfl

theorem two_zpow_le_iff (r : ℝ) (hr : 0 < r) (n : ℤ) : (2 : ℝ) ^ n ≤ r ↔ n ≤ ⌊Real.log r / Real.log 2⌋ := by
  have h2 : 0 < Real.log 2 := Real.log_pos (by norm_num)
  rw [Int.le_floor, le_div_iff₀ h2, ← Real.log_zpow, Real.log_le_log_iff (by positivity) hr]

theorem ofBits_two : Ideal.ofBits .f32 0x40000000#32 = ((2 : ℝ) : EReal) := by
  have h := ofBits_powWord 128 (by omega) (by omega)
  have e : powWord 128 = 0x40000000#32 := by decide
  rw [e] at h; rw [h]; norm_num

/-- The two exponents are one integer, small enough that two to it, and to minus it, are normal numbers. -/
theorem expo_spec (s : EReal) (h0 : 0 ≤ s) (h : s = ⊤ ∨ s < (((2 : ℝ) ^ (120 : ℤ) : ℝ) : EReal)) :
    ∃ e : ℤ, -125 ≤ e ∧ e ≤ 121 ∧ expoBits s = BitVec.ofInt 32 e ∧ expoReal s = ((e : ℝ) : EReal) := by
  have hmin : Ideal.ofBits .f32 0x00800000#32 = (((2 : ℝ) ^ (-126 : ℤ) : ℝ) : EReal) := by
    have h := ofBits_powWord 1 (by omega) (by omega)
    have e : powWord 1 = 0x00800000#32 := by decide
    rw [e] at h; rw [h]; norm_num
  have htop : Ideal.ofBits .f32 0x7F800000#32 = ⊤ := by
    have e : powWord 255 = 0x7F800000#32 := by decide
    rw [← e, ofBits_powWord_top]
  rcases h with rfl | h
  · refine ⟨0, by omega, by omega, ?_, ?_⟩
    · rw [expoBits_eq ⊤ 255 (by simp), if_pos (.inr rfl)]; rfl
    · unfold expoReal
      rw [htop, decide_eq_false (lt_irrefl _)]
      simp [Scalar.select, IntOp.andi]
  have hs : ∃ r : ℝ, s = (r : EReal) := by
    induction s using EReal.rec with
    | bot => simp at h0
    | top => simp at h
    | coe r => exact ⟨r, rfl⟩
  obtain ⟨r, rfl⟩ := hs
  rw [EReal.coe_lt_coe_iff] at h
  by_cases hlow : (2 : ℝ) ^ (-126 : ℤ) ≤ r
  · have hr : 0 < r := lt_of_lt_of_le (by positivity) hlow
    set f : ℤ := ⌊Real.log r / Real.log 2⌋ with hf
    have hf0 : -126 ≤ f := (two_zpow_le_iff r hr _).1 hlow
    have hf1 : f < 120 := by
      by_contra hc
      exact absurd ((two_zpow_le_iff r hr 120).2 (by omega)) (not_le.2 h)
    have hcard : (Finset.univ.filter fun k : Fin 255 => Ideal.ofBits .f32 (powWord (k.val + 1)) ≤ (r : EReal)).card = (f + 127).toNat := by
      have e : (Finset.univ.filter fun k : Fin 255 => Ideal.ofBits .f32 (powWord (k.val + 1)) ≤ (r : EReal))
          = Finset.univ.filter fun k : Fin 255 => k.val < (f + 127).toNat := by
        refine Finset.filter_congr fun k _ => ?_
        by_cases hk : k.val = 254
        · rw [hk, ofBits_powWord_top]
          simp only [top_le_iff, EReal.coe_ne_top, false_iff]; omega
        · rw [ofBits_powWord _ (by omega) (by omega), EReal.coe_le_coe_iff, two_zpow_le_iff r hr]
          omega
      rw [e, Fin.card_filter_val_lt]
      omega
    refine ⟨f + 1, by omega, by omega, ?_, ?_⟩
    · rw [expoBits_eq _ _ hcard, if_neg (by omega)]
      congr 1; omega
    · unfold expoReal
      rw [hmin, htop, ofBits_two, decide_eq_true (EReal.coe_le_coe_iff.2 hlow), decide_eq_true (EReal.coe_lt_top r)]
      have e2 : Ideal.log ((2 : ℝ) : EReal) = ((Real.log 2 : ℝ) : EReal) := by
        show (if (2 : ℝ) ≤ 0 then ⊥ else ((Real.log 2 : ℝ) : EReal)) = _
        rw [if_neg (by norm_num)]
      have er : Ideal.log (r : EReal) = ((Real.log r : ℝ) : EReal) := by
        show (if r ≤ 0 then ⊥ else ((Real.log r : ℝ) : EReal)) = _
        rw [if_neg (by linarith)]
      have h2 : Real.log 2 ≠ 0 := (Real.log_pos (by norm_num)).ne'
      rw [e2, er, Ideal.div_coe h2, ← EReal.coe_mul, mul_one_div]
      show (((⌊Real.log r / Real.log 2⌋ : ℤ) : ℝ) : EReal) + 1 = _
      rw [← hf]; push_cast; rfl
  · have hlow' : ¬ (((2 : ℝ) ^ (-126 : ℤ) : ℝ) : EReal) ≤ (r : EReal) := by rwa [EReal.coe_le_coe_iff]
    refine ⟨0, by omega, by omega, ?_, ?_⟩
    · rw [expoBits_eq _ 0 ?_, if_pos (.inl rfl)]; · rfl
      rw [Finset.card_eq_zero, Finset.filter_eq_empty_iff]
      intro k _ hk
      by_cases hk' : k.val = 254
      · rw [hk', ofBits_powWord_top] at hk; simp at hk
      · rw [ofBits_powWord _ (by omega) (by omega), EReal.coe_le_coe_iff] at hk
        refine hlow (le_trans (zpow_le_zpow_right₀ (by norm_num) ?_) hk)
        omega
    · unfold expoReal
      rw [hmin, decide_eq_false hlow']
      simp [Scalar.select, IntOp.andi]

theorem exp2_int (e : ℤ) : Ideal.exp2 ((e : ℝ) : EReal) = (((2 : ℝ) ^ e : ℝ) : EReal) := by
  show ((Real.rpow 2 (e : ℝ) : ℝ) : EReal) = _
  congr 1
  exact Real.rpow_intCast 2 e

/-- Two to the exponent, from the exponent's bits. -/
theorem scale_bits (e : ℤ) (h0 : -125 ≤ e) (h1 : e ≤ 121) :
    Ideal.ofBits .f32 (IntOp.shli .vector (IntOp.addi (BitVec.ofInt 32 e) 127#32) 23#32) = Ideal.exp2 ((e : ℝ) : EReal) := by
  have h : IntOp.addi (BitVec.ofInt 32 e) 127#32 = BitVec.ofNat 32 (e + 127).toNat := by
    show BitVec.ofInt 32 e + BitVec.ofInt 32 127 = _
    rw [← BitVec.ofInt_add, ← BitVec.ofInt_natCast]
    congr 1; omega
  rw [h, shli_ofNat, ofBits_powWord _ (by omega) (by omega), exp2_int]
  congr 2; omega

/-- Two to minus the exponent, from the exponent's bits. -/
theorem inv_bits (e : ℤ) (h0 : -125 ≤ e) (h1 : e ≤ 121) :
    Ideal.ofBits .f32 (IntOp.shli .vector (IntOp.subi (127#32) (BitVec.ofInt 32 e)) 23#32) = Ideal.exp2 (0 - ((e : ℝ) : EReal)) := by
  have h : IntOp.subi (127#32) (BitVec.ofInt 32 e) = BitVec.ofNat 32 (127 - e).toNat := by
    show BitVec.ofInt 32 127 - BitVec.ofInt 32 e = _
    rw [ofInt_sub, ← BitVec.ofInt_natCast]
    congr 1; omega
  have hn : (0 : EReal) - ((e : ℝ) : EReal) = (((-e : ℤ) : ℝ) : EReal) := by
    rw [zero_sub]; push_cast; rfl
  rw [h, shli_ofNat, ofBits_powWord _ (by omega) (by omega), hn, exp2_int]
  congr 2; omega

end Cert.Quant

end
-- ==== Proof.QuantRead.lean ====
/- What the quantiser of each program computes, at an index: the same function of a word of 32 columns. -/
module

public import proofs.«01_k».proof.Proof.PiecesRun
public import proofs.«01_k».proof.Proof.QuantMath
public import proofs.«01_k».proof.Proof.Gen.ReferenceIdeal.Frame

@[expose] public section

set_option maxRecDepth 16384

noncomputable section

namespace Cert.Quant

open Idealize.ShloMosaic

/-- A word's scaled absolute maximum. -/
def amax (w : Fin 32 → EReal) : EReal :=
  Finset.fold max (Ideal.ofBits .f32 0xFF800000#32) (fun c => FloatOps.absf (F := Ideal) (φ := .f32) (w c)) Finset.univ * Ideal.ofBits .f32 0x3B124925#32

/-- A word's scale. -/
def scaleVal (w : Fin 32 → EReal) : EReal := Ideal.exp2 (expoReal (amax w))

/-- A word's codes. -/
def codeVal (w : Fin 32 → EReal) (c : Fin 32) : EReal :=
  min (Ideal.ofBits .f32 0x43E00000#32) (max (Ideal.ofBits .f32 0xC3E00000#32) (w c * Ideal.exp2 (0 - expoReal (amax w))))

/-- A word put back. -/
def deqVal (w : Fin 32 → EReal) (c : Fin 32) : EReal := codeVal w c * scaleVal w

/-- A number no larger than the largest finite bfloat16, or an infinity. -/
def InRange (v : EReal) : Prop := FloatOps.absf (F := Ideal) (φ := .f32) v ≤ Ideal.ofBits .f32 0x7F7F0000#32 ∨ FloatOps.absf (F := Ideal) (φ := .f32) v = ⊤

theorem ofBits_c : Ideal.ofBits .f32 0x3B124925#32 = ((9586981 * (2 : ℝ) ^ (-32 : ℤ) : ℝ) : EReal) := by
  have a : (0x3B124925#32).extractLsb' 31 1 = 0#1 := by decide
  have b : ((0x3B124925#32).extractLsb' 23 8).toNat = 118 := by decide
  have c : ((0x3B124925#32).extractLsb' 0 23).toNat = 1198373 := by decide
  show Ideal.ieee 8 23 (0x3B124925#32 : BitVec 32) = _
  have a' : (0x3B124925#32).extractLsb' (8 + 23) 1 = 0#1 := a
  simp only [Ideal.ieee, a', b, c]
  rw [if_neg (by omega), if_neg (by omega)]
  congr 1
  norm_num

theorem ofBits_max : Ideal.ofBits .f32 0x7F7F0000#32 = ((255 * (2 : ℝ) ^ (120 : ℤ) : ℝ) : EReal) := by
  have a : (0x7F7F0000#32).extractLsb' 31 1 = 0#1 := by decide
  have b : ((0x7F7F0000#32).extractLsb' 23 8).toNat = 254 := by decide
  have c : ((0x7F7F0000#32).extractLsb' 0 23).toNat = 8323072 := by decide
  show Ideal.ieee 8 23 (0x7F7F0000#32 : BitVec 32) = _
  have a' : (0x7F7F0000#32).extractLsb' (8 + 23) 1 = 0#1 := a
  simp only [Ideal.ieee, a', b, c]
  rw [if_neg (by omega), if_neg (by omega)]
  congr 1
  have e : (((254 : ℕ) : ℤ) - (2 ^ (8 - 1) - 1) - ((23 : ℕ) : ℤ)) = 104 := by norm_num
  rw [e]
  norm_num

theorem ofBits_neg_inf : Ideal.ofBits .f32 0xFF800000#32 = ⊥ := by
  simp [Ideal.ofBits, Ideal.ieee]

theorem absf_nonneg (v : EReal) : 0 ≤ FloatOps.absf (F := Ideal) (φ := .f32) v := by
  show 0 ≤ max v (-v)
  rcases le_total 0 v with h | h
  · exact le_max_of_le_left h
  · exact le_max_of_le_right (EReal.neg_nonneg.2 h)

theorem amax_range (w : Fin 32 → EReal) (h : ∀ c, InRange (w c)) : 0 ≤ amax w ∧ (amax w = ⊤ ∨ amax w < (((2 : ℝ) ^ (120 : ℤ) : ℝ) : EReal)) := by
  have hc : (0 : EReal) < Ideal.ofBits .f32 0x3B124925#32 := by
    rw [ofBits_c]; exact EReal.coe_pos.2 (by positivity)
  set m := Finset.fold max (Ideal.ofBits .f32 0xFF800000#32) (fun c => FloatOps.absf (F := Ideal) (φ := .f32) (w c)) Finset.univ with hm
  have h0 : 0 ≤ m := (Finset.le_fold_max _).2 (.inr ⟨0, Finset.mem_univ _, absf_nonneg _⟩)
  have hle : m = ⊤ ∨ m ≤ Ideal.ofBits .f32 0x7F7F0000#32 := by
    by_cases ht : ∃ c, FloatOps.absf (F := Ideal) (φ := .f32) (w c) = ⊤
    · obtain ⟨c, hc⟩ := ht
      left
      refine top_le_iff.1 ((Finset.le_fold_max _).2 (.inr ⟨c, Finset.mem_univ _, hc.ge⟩))
    · right
      refine (Finset.fold_max_le _).2 ⟨by rw [ofBits_neg_inf]; exact bot_le, fun c _ => ?_⟩
      exact (h c).resolve_right fun e => ht ⟨c, e⟩
  refine ⟨EReal.mul_nonneg h0 hc.le, ?_⟩
  show m * _ = ⊤ ∨ m * _ < _
  rcases hle with e | e
  · left; rw [e]; exact EReal.top_mul_of_pos hc
  · right
    refine lt_of_le_of_lt (mul_le_mul_of_nonneg_right e hc.le) ?_
    rw [ofBits_max, ofBits_c, ← EReal.coe_mul, EReal.coe_lt_coe_iff]
    norm_num

/-- The word at a row and a group of columns. -/
def wordAt (x : (⟨2, ![128, 2880]⟩ : Shape).Idx → EReal) (r : Fin 128) (k : Fin 90) : Fin 32 → EReal :=
  fun c => x (ix2 r ⟨k.val * 32 + c.val, by omega⟩)

end Cert.Quant

namespace Cert.ReferenceIdeal.Gen

open Idealize.ShloMosaic Idealize.ShloMosaic.TcCoe Idealize.ShloMosaic.Tactic Cert.Quant

theorem pay4_apply (x : Vec Ideal S128x2880 .bf16) (r : Fin 128) (k : Fin 90) : k0_pay4 x (ix2 r k) = expoReal (amax (wordAt x r k)) := by
  pointwise [k0_pay4, k0_pay3]
  rfl

theorem pay5_apply (x : Vec Ideal S128x2880 .bf16) (r : Fin 128) (k : Fin 90) : k0_pay5 x (ix2 r k) = scaleVal (wordAt x r k) := by
  show Ideal.exp2 (k0_pay4 x (ix2 r k)) = _
  rw [pay4_apply]; rfl

theorem pay6_apply (x : Vec Ideal S128x2880 .bf16) (r : Fin 128) (k : Fin 90) (c : Fin 32) : k0_pay6 x (ix3 r k c) = codeVal (wordAt x r k) c := by
  pointwise [k0_pay6, k0_pay3]
  rw [pay4_apply]; rfl

theorem pay7_apply (x : Vec Ideal S128x2880 .bf16) (r : Fin 128) (k : Fin 90) (c : Fin 32) : k0_pay7 x (ix3 r k c) = deqVal (wordAt x r k) c := by
  pointwise [k0_pay7, k0_pay5]
  rw [pay4_apply, pay6_apply]; rfl

theorem pay2_apply (x : Vec Ideal S128x2880 .bf16) (r : Fin 128) (k : Fin 2880) :
    k0_pay2 (k0_pay6 x) (ix2 r k) = codeVal (wordAt x r ⟨k.val / 32, by omega⟩) ⟨k.val % 32, by omega⟩ := by
  pointwise [k0_pay2]
  rw [pay6_apply]

end Cert.ReferenceIdeal.Gen

namespace Cert.KernelIdeal.Gen

open Idealize.ShloMosaic Idealize.ShloMosaic.TcCoe Idealize.ShloMosaic.Tactic Cert.Quant

theorem expoOf_apply (xb : FVec Ideal S128x32 .f32) (r : Fin 128) (z : Fin 1) : expoOf xb (ix2 r z) = expoBits (amax fun c => xb (ix2 r c)) := by
  pointwise [expoOf, k0_pay4]
  rfl

section
variable (xb : FVec Ideal S128x32 .f32) (r : Fin 128) (h : ∀ c, InRange (xb (ix2 r c)))
include h

theorem scaleOf_apply (z : Fin 1) : scaleOf xb (ix2 r z) = scaleVal fun c => xb (ix2 r c) := by
  pointwise [scaleOf]
  rw [expoOf_apply]
  obtain ⟨e, h0, h1, hb, hr⟩ := expo_spec _ (amax_range _ h).1 (amax_range _ h).2
  rw [hb, scale_bits e h0 h1, scaleVal, hr]

theorem codeOf_apply (c : Fin 32) : codeOf xb (ix2 r c) = codeVal (fun c => xb (ix2 r c)) c := by
  pointwise [codeOf, k0_pay10, scaledOf]
  rw [expoOf_apply]
  obtain ⟨e, h0, h1, hb, hr⟩ := expo_spec _ (amax_range _ h).1 (amax_range _ h).2
  rw [hb, inv_bits e h0 h1, codeVal, hr]

theorem deqOf_apply (c : Fin 32) : deqOf xb (ix2 r c) = deqVal (fun c => xb (ix2 r c)) c := by
  have hs := scaleOf_apply xb r h 0
  have hc := codeOf_apply xb r h c
  unfold deqVal
  rw [← hs, ← hc]
  pointwise [deqOf, k0_pay11, codeOf]
end

theorem wordN_apply (x : Vec Ideal S128x2880 .bf16) (k : ℕ) (hk : k < 90) (r : Fin 128) (c : Fin 32) :
    wordN (fun r => View.ld x r) k hk (ix2 r c) = wordAt x r ⟨k, hk⟩ c := by
  unfold wordN
  split
  · pointwise [k0_pay5, wordAt]
    exact congrArg (fun i => x (ix2 r i)) (Fin.ext (by show 256 * (k / 8) + (32 * (k % 8) + c.val) = k * 32 + c.val; omega))
  · pointwise [wordAt]
    exact congrArg (fun i => x (ix2 r i)) (Fin.ext (by show 2816 + (32 * (k % 8) + c.val) = k * 32 + c.val; omega))

end Cert.KernelIdeal.Gen

end
-- ==== Proof.QuantOut.lean ====
/- The scales and the codes the body's stores leave, at an index. -/
module

public import proofs.«01_k».proof.Proof.QuantRead

@[expose] public section

set_option maxRecDepth 16384

noncomputable section

namespace Cert.KernelIdeal.Gen

open Idealize.ShloMosaic Idealize.ShloMosaic.TcCoe Idealize.ShloMosaic.Tactic Cert.Quant

/-- An index of a rectangle of a two-axis shape, in the shape. -/
theorem emb_unit2 {R C a b p q : ℕ} (inb : ∀ d, (![a, b] : Fin 2 → ℕ) d + (![p, q] : Fin 2 → ℕ) d ≤ (⟨2, ![R, C]⟩ : Shape).size d)
    (i : Fin p) (j : Fin q) (ha : a + i.val < R) (hb : b + j.val < C) :
    (Rect.unit (s := ⟨2, ![R, C]⟩) ![a, b] ![p, q] inb).emb (ix2 (n0 := p) (n1 := q) i j) = ix2 ⟨a + i.val, ha⟩ ⟨b + j.val, hb⟩ := by
  funext d
  apply Fin.ext
  rw [Rect.emb_apply]
  match d with
  | ⟨0, _⟩ => show a + 1 * i.val = a + i.val; omega
  | ⟨1, _⟩ => show b + 1 * j.val = b + j.val; omega

/-- What the stores of a list, counted down, leave at an index, each store's value being that of one function. -/
theorem canon_downTo {S : Shape} {e : EltTy} (n : ℕ) (f : (j : ℕ) → j < n → View.Piece (Elt Ideal) S e) (G : S.Idx → Elt Ideal e)
    (hG : ∀ j h, ∀ x : (f j h).1.shape.Idx, (f j h).2 x = G ((f j h).1.emb x)) (y : S.Idx) (hy : ∃ p ∈ downTo n f, y ∈ p.1.set) :
    View.canon (downTo n f) y = G y := by
  refine View.canon_apply_of_pieces G _ (fun p hp x => ?_) y hy
  obtain ⟨j, h, rfl⟩ := mem_downTo.1 hp
  exact hG j h x

variable (x : Vec Ideal S128x2880 .bf16) (hx : ∀ i, InRange (x i))
include hx

theorem wordN_inRange (k : ℕ) (hk : k < 90) (r : Fin 128) (c : Fin 32) : InRange (wordN (fun r => View.ld x r) k hk (ix2 r c)) := by
  rw [wordN_apply]; exact hx _

theorem scOut_apply (r : Fin 128) (k : Fin 90) : scOut x (ix2 r k) = scaleVal (wordAt x r k) := by
  refine canon_downTo 90 _ (fun y : S128x90.Idx => scaleVal (wordAt x (y 0) (y 1))) (fun j h z => ?_) (ix2 r k) (cover_scale _ _)
  obtain ⟨a, b, rfl⟩ : ∃ (a : Fin 128) (b : Fin 1), z = ix2 a b := ⟨z 0, z 1, eq_ix2 z⟩
  show scaleOf (wordN (fun r => View.ld x r) j h) (ix2 a b) = _
  rw [scaleOf_apply _ _ (wordN_inRange x hx j h a)]
  rw [show (Rect.unit (s := S128x90) ![0, j] S128x1.size (inb_scale j h)).emb (ix2 a b) = ix2 ⟨0 + a.val, by omega⟩ ⟨j + b.val, by omega⟩ from
    emb_unit2 _ a b _ _]
  congr 1
  funext c
  rw [wordN_apply]
  exact congrArg₂ (fun r k => wordAt x r k c) (Fin.ext (by show a.val = 0 + a.val; omega)) (Fin.ext (by show j = j + b.val; omega))

theorem cdOut_apply (r : Fin 128) (k : Fin 2880) : cdOut x (ix2 r k) = codeVal (wordAt x r ⟨k.val / 32, by omega⟩) ⟨k.val % 32, by omega⟩ := by
  refine canon_downTo 90 _ (fun y : S128x2880.Idx => codeVal (wordAt x (y 0) ⟨(y 1).val / 32, by have : (y 1).val < 2880 := (y 1).isLt; omega⟩) ⟨(y 1).val % 32, by omega⟩)
    (fun j h z => ?_) (ix2 r k) (cover_code _ _)
  obtain ⟨a, b, rfl⟩ : ∃ (a : Fin 128) (b : Fin 32), z = ix2 a b := ⟨z 0, z 1, eq_ix2 z⟩
  show codeOf (wordN (fun r => View.ld x r) j h) (ix2 a b) = _
  rw [codeOf_apply _ _ (wordN_inRange x hx j h a)]
  rw [show (Rect.unit (s := S128x2880) ![0, 32 * j] S128x32.size (inb_code j h)).emb (ix2 a b) = ix2 ⟨0 + a.val, by omega⟩ ⟨32 * j + b.val, by omega⟩ from
    emb_unit2 _ a b _ _]
  have e : (fun c => wordN (fun r => View.ld x r) j h (ix2 a c)) = wordAt x a ⟨j, h⟩ := by
    funext c; rw [wordN_apply]
  rw [e]
  have e1 : (⟨0 + a.val, by omega⟩ : Fin 128) = a := Fin.ext (by show 0 + a.val = a.val; omega)
  have e2 : (⟨(32 * j + b.val) / 32, by omega⟩ : Fin 90) = ⟨j, h⟩ := Fin.ext (by show (32 * j + b.val) / 32 = j; omega)
  have e3 : (⟨(32 * j + b.val) % 32, by omega⟩ : Fin 32) = b := Fin.ext (by show (32 * j + b.val) % 32 = b.val; omega)
  show _ = codeVal (wordAt x ⟨0 + a.val, _⟩ ⟨(32 * j + b.val) / 32, _⟩) ⟨(32 * j + b.val) % 32, _⟩
  rw [e1, e2, e3]

end Cert.KernelIdeal.Gen

end
-- ==== Proof.XdRead.lean ====
/- The words put back, permuted by the product into the scratch, at an index. -/
module

public import proofs.«01_k».proof.Proof.QuantOut

@[expose] public section

set_option maxRecDepth 16384

noncomputable section

namespace Cert.KernelIdeal.Gen

open Idealize.ShloMosaic Idealize.ShloMosaic.TcCoe Idealize.ShloMosaic.Tactic Cert.Quant

/-- The row's number put back at column `k`; zero past the last column. -/
def padDeq (x : (⟨2, ![128, 2880]⟩ : Shape).Idx → EReal) (r : Fin 128) (k : ℕ) : EReal :=
  if h : k < 2880 then deqVal (wordAt x r ⟨k / 32, by omega⟩) ⟨k % 32, by omega⟩ else 0

/-- The column of its chunk that the permutation brings to place `q`: byte `q % 32`'s bit `q / 32`. -/
def permCol (q : ℕ) : ℕ := q % 32 * 8 + q / 32

theorem concat8_apply (a : (j : ℕ) → j < 8 → FVec Ideal S128x32 .bf16)
    (h : Shape.Concatenates [S128x32, S128x32, S128x32, S128x32, S128x32, S128x32, S128x32, S128x32] S128x256 1) (r : Fin 128) (p : Fin 256) :
    concatenate S128x256 1 [⟨S128x32, a 0 (by omega)⟩, ⟨S128x32, a 1 (by omega)⟩, ⟨S128x32, a 2 (by omega)⟩, ⟨S128x32, a 3 (by omega)⟩,
      ⟨S128x32, a 4 (by omega)⟩, ⟨S128x32, a 5 (by omega)⟩, ⟨S128x32, a 6 (by omega)⟩, ⟨S128x32, a 7 (by omega)⟩] h (ix2 r p)
      = a (p.val / 32) (by omega) (ix2 r ⟨p.val % 32, by omega⟩) := by
  have key (j j' : ℕ) (hj : j < 8) (hj' : j' < 8) (i i' : Fin 32) (e : j = j') (e' : i = i') : a j hj (ix2 r i) = a j' hj' (ix2 r i') := by
    subst e; subst e'; rfl
  pointwise
  split_ifs <;> exact key _ _ _ _ _ _ (by omega) (Fin.ext (by dsimp only; omega))

theorem concat3_apply (a : (j : ℕ) → j < 2 → FVec Ideal S128x32 .bf16) (z : Ideal .bf16)
    (h : Shape.Concatenates [S128x32, S128x32, S128x192] S128x256 1) (r : Fin 128) (p : Fin 256) :
    concatenate S128x256 1 [⟨S128x32, a 0 (by omega)⟩, ⟨S128x32, a 1 (by omega)⟩, ⟨S128x192, broadcast S128x192 z⟩] h (ix2 r p)
      = if h : p.val < 64 then a (p.val / 32) (by omega) (ix2 r ⟨p.val % 32, by omega⟩) else z := by
  have key (j j' : ℕ) (hj : j < 2) (hj' : j' < 2) (i i' : Fin 32) (e : j = j') (e' : i = i') : a j hj (ix2 r i) = a j' hj' (ix2 r i') := by
    subst e; subst e'; rfl
  by_cases h64 : p.val < 64
  · rw [dif_pos h64]
    pointwise
    split_ifs <;> first | omega | exact key _ _ _ _ _ _ (by omega) (Fin.ext (by first | omega | (dsimp only; omega)))
  · rw [dif_neg h64]
    pointwise
    split_ifs <;> first | omega | rfl

theorem perm_apply (p q : Fin 256) : (k0_pay3 k0_pay2 : FVec Ideal S256x256 .bf16) (ix2 p q) = if p.val = permCol q.val then (1 : EReal) else 0 := by
  pointwise [k0_pay2, k0_pay3]
  refine (congrArg (fun v => FloatOps.sitofp (F := Ideal) .f32 (BitVec.setWidth 32 (IntOp.cmpi .eq v (BitVec.ofNat 32 q.val))))
    (?_ : _ = BitVec.ofNat 32 (p.val % 8 * 32 + p.val / 8))).trans ?_
  · revert p; clear q; decide +kernel
  · have e : IntOp.cmpi .eq (BitVec.ofNat 32 (p.val % 8 * 32 + p.val / 8)) (BitVec.ofNat 32 q.val) = BitVec.ofBool (decide (p.val = permCol q.val)) := by
      show BitVec.ofBool (_ == _) = _
      congr 1
      rw [Bool.eq_iff_iff, beq_iff_eq, decide_eq_true_iff, ← BitVec.toNat_inj, BitVec.toNat_ofNat, BitVec.toNat_ofNat,
        Nat.mod_eq_of_lt (Nat.lt_of_lt_of_le (show p.val % 8 * 32 + p.val / 8 < 256 by omega) (by decide)),
        Nat.mod_eq_of_lt (Nat.lt_of_lt_of_le q.isLt (by decide)), permCol]
      constructor <;> intro e <;> omega
    rw [e]
    by_cases h : p.val = permCol q.val
    · rw [if_pos h, decide_eq_true h]
      show (((BitVec.setWidth 32 (BitVec.ofBool true)).toInt : ℝ) : EReal) = 1
      rw [show (BitVec.setWidth 32 (BitVec.ofBool true)).toInt = 1 by decide]; norm_num
    · rw [if_neg h, decide_eq_false h]
      show (((BitVec.setWidth 32 (BitVec.ofBool false)).toInt : ℝ) : EReal) = 0
      rw [show (BitVec.setWidth 32 (BitVec.ofBool false)).toInt = 0 by decide]; norm_num

variable (x : Vec Ideal S128x2880 .bf16) (hx : ∀ i, InRange (x i))
include hx

theorem deq_word (k : ℕ) (hk : k < 90) (r : Fin 128) (c : Fin 32) (K : ℕ) (hK : K = 32 * k + c.val) :
    deqOf (wordN (fun r => View.ld x r) k hk) (ix2 r c) = padDeq x r K := by
  rw [deqOf_apply _ _ (wordN_inRange x hx k hk r), padDeq, dif_pos (by omega)]
  have e : (fun c => wordN (fun r => View.ld x r) k hk (ix2 r c)) = wordAt x r ⟨k, hk⟩ := by
    funext c; rw [wordN_apply]
  rw [e]
  have e2 : (⟨k, hk⟩ : Fin 90) = ⟨K / 32, by omega⟩ := Fin.ext (by show k = K / 32; omega)
  have e3 : c = ⟨K % 32, by omega⟩ := Fin.ext (by show c.val = K % 32; omega)
  rw [e2]
  exact congrArg _ e3

theorem deqChunk_apply (g : ℕ) (hg : g < 12) (r : Fin 128) (p : Fin 256) :
    deqChunk (fun r => View.ld x r) g hg (ix2 r p) = padDeq x r (256 * g + p.val) := by
  unfold deqChunk
  split
  · refine (concat8_apply (fun j hj => deqOf (wordN (fun r => View.ld x r) (8 * g + j) (by omega))) _ r p).trans ?_
    exact deq_word x hx _ _ r _ _ (by dsimp only; omega)
  · refine (concat3_apply (fun j hj => deqOf (wordN (fun r => View.ld x r) (8 * g + j) (by omega))) _ _ r p).trans ?_
    split
    · exact deq_word x hx _ _ r _ _ (by dsimp only; omega)
    · rw [padDeq, dif_neg (by omega)]
      show Ideal.ofBits .bf16 (0x0000#16 : BitVec 16) = 0
      simp [Ideal.ofBits, Ideal.ieee]

theorem xdChunk_apply (g : ℕ) (hg : g < 12) (r : Fin 128) (q : Fin 256) :
    xdChunk (fun r => View.ld x r) g hg (ix2 r q) = padDeq x r (256 * g + permCol q.val) := by
  pointwise [xdChunk]
  have hq : permCol q.val < 256 := by unfold permCol; omega
  rw [Finset.sum_eq_single (⟨permCol q.val, hq⟩ : Fin 256)]
  · rw [deqChunk_apply x hx, perm_apply, if_pos rfl, mul_one]
  · intro p _ hp
    rw [perm_apply, if_neg (fun e => hp (Fin.ext e)), mul_zero]
  · intro h; exact absurd (Finset.mem_univ _) h

theorem xdOut_apply (r : Fin 128) (k : Fin 3072) : xdOut x (ix2 r k) = padDeq x r (256 * (k.val / 256) + permCol (k.val % 256)) := by
  refine canon_downTo 12 _ (fun y : S128x3072.Idx => padDeq x (y 0) (256 * ((y 1).val / 256) + permCol ((y 1).val % 256)))
    (fun g hg z => ?_) (ix2 r k) (cover_xd _ _)
  obtain ⟨a, b, rfl⟩ : ∃ (a : Fin 128) (b : Fin 256), z = ix2 a b := ⟨z 0, z 1, eq_ix2 z⟩
  show xdChunk (fun r => View.ld x r) g hg (ix2 a b) = _
  rw [xdChunk_apply x hx]
  rw [show (Rect.unit (s := S128x3072) ![0, 256 * g] S128x256.size (inb_xd g hg)).emb (ix2 a b) = ix2 ⟨0 + a.val, by omega⟩ ⟨256 * g + b.val, by omega⟩ from
    emb_unit2 _ a b _ _]
  have e1 : (⟨0 + a.val, by omega⟩ : Fin 128) = a := Fin.ext (by show 0 + a.val = a.val; omega)
  show _ = padDeq x ⟨0 + a.val, _⟩ (256 * ((256 * g + b.val) / 256) + permCol ((256 * g + b.val) % 256))
  rw [e1, show (256 * g + b.val) / 256 = g by omega, show (256 * g + b.val) % 256 = b.val by omega]

end Cert.KernelIdeal.Gen

end
-- ==== Proof.TernRead.lean ====
/- The packed weights, as each program reads them, at an index. -/
module

public import proofs.«01_k».proof.Proof.QuantOut
public import Idealize.ShloMosaic.Lib.BitcastPair

@[expose] public section

set_option maxRecDepth 16384

noncomputable section

namespace Cert.Quant

open Idealize.ShloMosaic

/-- The weight a mask word and a sign word hold at one bit: one of -1, 0 and 1. -/
def ternVal (m s : BitVec 32) (n : ℕ) : ℤ := if m.getLsbD n then (if s.getLsbD n then -1 else 1) else 0

/-- The byte whose top bit is a sign and whose next bit is a mask. -/
def ternByte (mb sb : Bool) : BitVec 8 := if mb then (if sb then 0xC0#8 else 0x40#8) else (if sb then 0x80#8 else 0#8)

theorem ofBits_ternByte (mb sb : Bool) :
    Ideal.ofBits .fp8e4m3 (ternByte mb sb) = ((2 * (if mb then (if sb then -1 else 1) else 0 : ℝ) : ℝ) : EReal) := by
  cases mb <;> cases sb
  · show Ideal.e4m3fn (0x00#8 : BitVec 8) = _
    simp [Ideal.e4m3fn]
  · show Ideal.e4m3fn (0x80#8 : BitVec 8) = _
    simp [Ideal.e4m3fn]
  · show Ideal.e4m3fn (0x40#8 : BitVec 8) = _
    simp [Ideal.e4m3fn]
    rw [← EReal.coe_mul]
    norm_num
  · show Ideal.e4m3fn (0xC0#8 : BitVec 8) = _
    simp [Ideal.e4m3fn]
    rw [← EReal.coe_mul]
    norm_num

/-- The packed even bits: a mask's even bits, each under the sign's bit. -/
def evenW (m s : BitVec 32) : BitVec 32 := (m &&& 0x55555555#32) ||| ((s &&& 0x55555555#32) <<< 1)

/-- The packed odd bits: a mask's odd bits, each moved down under the sign's bit. -/
def oddW (m s : BitVec 32) : BitVec 32 := ((m.sshiftRight 1) &&& 0x55555555#32) ||| (s &&& 0xAAAAAAAA#32)

theorem five_even : ∀ n : Fin 16, (0x55555555#32).getLsbD (2 * n.val) = true := by decide
theorem five_odd : ∀ n : Fin 16, (0x55555555#32).getLsbD (2 * n.val + 1) = false := by decide
theorem ten_even : ∀ n : Fin 16, (0xAAAAAAAA#32).getLsbD (2 * n.val) = false := by decide
theorem ten_odd : ∀ n : Fin 16, (0xAAAAAAAA#32).getLsbD (2 * n.val + 1) = true := by decide
theorem top_low : ∀ (i : Fin 4) (k : Fin 6), (0xC0C0C0C0#32).getLsbD (8 * i.val + k.val) = false := by decide
theorem top_six : ∀ i : Fin 4, (0xC0C0C0C0#32).getLsbD (8 * i.val + 6) = true := by decide
theorem top_seven : ∀ i : Fin 4, (0xC0C0C0C0#32).getLsbD (8 * i.val + 7) = true := by decide

theorem evenW_mask (m s : BitVec 32) (n : Fin 16) : (evenW m s).getLsbD (2 * n.val) = m.getLsbD (2 * n.val) := by
  have h : ¬ 1 ≤ 2 * n.val ∨ (0x55555555#32).getLsbD (2 * n.val - 1) = false := by
    rcases Nat.eq_zero_or_pos n.val with h | h
    · left; omega
    · right
      have := five_odd ⟨n.val - 1, by omega⟩
      rwa [show 2 * (n.val - 1) + 1 = 2 * n.val - 1 by omega] at this
  rw [evenW, BitVec.getLsbD_or, BitVec.getLsbD_and, BitVec.getLsbD_shiftLeft, BitVec.getLsbD_and, five_even n, Bool.and_true]
  rcases h with h | h
  · rw [show decide (2 * n.val < 1) = true by simpa using h]; simp
  · rw [h]; simp

theorem evenW_sign (m s : BitVec 32) (n : Fin 16) : (evenW m s).getLsbD (2 * n.val + 1) = s.getLsbD (2 * n.val) := by
  rw [evenW, BitVec.getLsbD_or, BitVec.getLsbD_and, BitVec.getLsbD_shiftLeft, BitVec.getLsbD_and, five_odd n, Nat.add_sub_cancel, five_even n]
  have h1 : decide (2 * n.val + 1 < 32) = true := by simp; omega
  have h2 : decide (2 * n.val + 1 < 1) = false := by simp
  rw [h1, h2]; simp

theorem oddW_mask (m s : BitVec 32) (n : Fin 16) : (oddW m s).getLsbD (2 * n.val) = m.getLsbD (2 * n.val + 1) := by
  rw [oddW, BitVec.getLsbD_or, BitVec.getLsbD_and, BitVec.getLsbD_sshiftRight, BitVec.getLsbD_and, five_even n, ten_even n, Nat.add_comm 1]
  have h1 : decide (32 ≤ 2 * n.val) = false := by simp; omega
  rw [h1, if_pos (by omega)]; simp

theorem oddW_sign (m s : BitVec 32) (n : Fin 16) : (oddW m s).getLsbD (2 * n.val + 1) = s.getLsbD (2 * n.val + 1) := by
  rw [oddW, BitVec.getLsbD_or, BitVec.getLsbD_and, BitVec.getLsbD_and, five_odd n, ten_odd n]
  simp

end Cert.Quant

namespace Cert.KernelIdeal.Gen

open Idealize.ShloMosaic Idealize.ShloMosaic.TcCoe Idealize.ShloMosaic.Tactic Cert.Quant

/-- A bit of a byte of a word, the words' rows read as four times as many rows of bytes. -/
theorem byte_getLsbD (x : IVec S8x256 32) (t : Fin 32) (j : Fin 256) (k : ℕ) (hk : k < 8) :
    (bitcast S32x256 8 x bitcasts_S8x256_w32_S32x256_w8 (ix2 t j)).getLsbD k
      = (x (ix2 ⟨t.val / 4, by omega⟩ j)).getLsbD (8 * (t.val % 4) + k) := by
  rw [bitcast_getLsbD _ _ _ _ hk (by omega)]
  have hr : S32x256.row (ix2 (n0 := 32) (n1 := 256) t j) = t.val := rfl
  have e1 : (S32x256.row (ix2 (n0 := 32) (n1 := 256) t j) * 8 + k) % 32 = 8 * (t.val % 4) + k := by rw [hr]; omega
  have e2 : (S32x256.row (ix2 (n0 := 32) (n1 := 256) t j) * 8 + k) / 32 = t.val / 4 := by rw [hr]; omega
  rw [e1]
  congr 2
  funext c
  apply Fin.ext
  match c with
  | ⟨0, _⟩ => exact (Shape.Bitcasts.srcIdx_row _ _ _ _ ⟨0, _⟩ rfl).trans e2
  | ⟨1, _⟩ => exact Shape.Bitcasts.srcIdx_other _ _ _ _ ⟨1, _⟩ (by show ¬ 1 + 2 = 2; omega)

theorem rowOf_apply (c : IVec S8x256 32) (b : Fin 4) (t : Fin 32) (j : Fin 256) :
    (rowOf c (BitVec.ofNat 32 (6 - 2 * b.val)) : FVec Ideal S32x256 .fp8e4m3) (ix2 t j)
      = Ideal.ofBits .fp8e4m3 (ternByte ((c (ix2 ⟨t.val / 4, by omega⟩ j)).getLsbD (8 * (t.val % 4) + 2 * b.val))
          ((c (ix2 ⟨t.val / 4, by omega⟩ j)).getLsbD (8 * (t.val % 4) + 2 * b.val + 1))) := by
  show Ideal.ofBits .fp8e4m3 (bitcast S32x256 8 (andi (shli c (broadcast S8x256 (BitVec.ofNat 32 (6 - 2 * b.val)))) (broadcast S8x256 0xC0C0C0C0#32)) bitcasts_S8x256_w32_S32x256_w8 (ix2 t j)) = _
  congr 1
  apply BitVec.eq_of_getLsbD_eq
  intro k hk
  rw [byte_getLsbD _ _ _ _ hk]
  have hsh : (BitVec.ofNat 32 (6 - 2 * b.val)).toNat = 6 - 2 * b.val := by revert b; decide
  show (IntOp.andi (IntOp.shli .vector (c (ix2 ⟨t.val / 4, by omega⟩ j)) (BitVec.ofNat 32 (6 - 2 * b.val))) 0xC0C0C0C0#32).getLsbD _ = _
  generalize c (ix2 ⟨t.val / 4, by omega⟩ j) = w
  rw [IntOp.shli, if_pos (by rw [hsh]; omega)]
  show ((w <<< BitVec.ofNat 32 (6 - 2 * b.val)) &&& 0xC0C0C0C0#32).getLsbD _ = _
  rw [BitVec.getLsbD_and, BitVec.shiftLeft_eq', hsh, BitVec.getLsbD_shiftLeft]
  have ht : t.val % 4 < 4 := by omega
  have d1 : decide (8 * (t.val % 4) + k < 32) = true := by simp; omega
  rw [d1, Bool.true_and]
  rcases (show k < 6 ∨ k = 6 ∨ k = 7 by omega) with h | rfl | rfl
  · rw [top_low ⟨t.val % 4, ht⟩ ⟨k, h⟩, Bool.and_false]
    generalize w.getLsbD (8 * (t.val % 4) + 2 * b.val) = u, w.getLsbD (8 * (t.val % 4) + 2 * b.val + 1) = v
    revert u v; clear * - h; revert k; decide
  · rw [top_six ⟨t.val % 4, ht⟩, Bool.and_true, show decide (8 * (t.val % 4) + 6 < 6 - 2 * b.val) = false by simp; omega,
      show 8 * (t.val % 4) + 6 - (6 - 2 * b.val) = 8 * (t.val % 4) + 2 * b.val by omega]
    generalize w.getLsbD (8 * (t.val % 4) + 2 * b.val) = u, w.getLsbD (8 * (t.val % 4) + 2 * b.val + 1) = v
    revert u v; decide
  · rw [top_seven ⟨t.val % 4, ht⟩, Bool.and_true, show decide (8 * (t.val % 4) + 7 < 6 - 2 * b.val) = false by simp; omega,
      show 8 * (t.val % 4) + 7 - (6 - 2 * b.val) = 8 * (t.val % 4) + 2 * b.val + 1 by omega]
    generalize w.getLsbD (8 * (t.val % 4) + 2 * b.val) = u, w.getLsbD (8 * (t.val % 4) + 2 * b.val + 1) = v
    revert u v; decide

theorem evenOf_apply (m s : IVec S8x256 32) (i : S8x256.Idx) : evenOf m s i = evenW (m i) (s i) := by
  show IntOp.ori (IntOp.andi (m i) 0x55555555#32) (IntOp.shli .vector (IntOp.andi (s i) 0x55555555#32) 1#32) = _
  rw [IntOp.shli, if_pos (by decide)]; rfl

theorem oddOf_apply (m s : IVec S8x256 32) (i : S8x256.Idx) : oddOf m s i = oddW (m i) (s i) := by
  show IntOp.ori (IntOp.andi (IntOp.shrsi .vector (m i) 1#32) 0x55555555#32) (IntOp.andi (s i) 0xAAAAAAAA#32) = _
  rw [IntOp.shrsi, if_pos (by decide)]; rfl

/-- A weight of a chunk: row `q` is bit `8 * (q % 4) + q / 32` of word `q % 32 / 4`. -/
def ternRow (m s : IVec S8x256 32) (b : ℕ) (hb : b < 8) : FVec Ideal S32x256 .fp8e4m3 :=
  if b % 2 = 0 then rowOf (evenOf m s) (BitVec.ofNat 32 (6 - 2 * (b / 2))) else rowOf (oddOf m s) (BitVec.ofNat 32 (6 - 2 * (b / 2)))

theorem ternRow_apply (m s : IVec S8x256 32) (b : ℕ) (hb : b < 8) (t : Fin 32) (j : Fin 256) :
    ternRow m s b hb (ix2 t j) = ((2 * (ternVal (m (ix2 ⟨t.val / 4, by omega⟩ j)) (s (ix2 ⟨t.val / 4, by omega⟩ j)) (8 * (t.val % 4) + b) : ℝ) : ℝ) : EReal) := by
  have ht : 4 * (t.val % 4) + b / 2 < 16 := by omega
  unfold ternRow
  split
  · rw [rowOf_apply _ ⟨b / 2, by omega⟩, evenOf_apply]
    have a := evenW_mask (m (ix2 ⟨t.val / 4, by omega⟩ j)) (s (ix2 ⟨t.val / 4, by omega⟩ j)) ⟨_, ht⟩
    have a' := evenW_sign (m (ix2 ⟨t.val / 4, by omega⟩ j)) (s (ix2 ⟨t.val / 4, by omega⟩ j)) ⟨_, ht⟩
    rw [show 8 * (t.val % 4) + 2 * (b / 2) = 2 * (4 * (t.val % 4) + b / 2) by omega, a, a', ofBits_ternByte,
      show 8 * (t.val % 4) + b = 2 * (4 * (t.val % 4) + b / 2) by omega, ternVal]
    split_ifs <;> simp
  · rw [rowOf_apply _ ⟨b / 2, by omega⟩, oddOf_apply]
    have a := oddW_mask (m (ix2 ⟨t.val / 4, by omega⟩ j)) (s (ix2 ⟨t.val / 4, by omega⟩ j)) ⟨_, ht⟩
    have a' := oddW_sign (m (ix2 ⟨t.val / 4, by omega⟩ j)) (s (ix2 ⟨t.val / 4, by omega⟩ j)) ⟨_, ht⟩
    rw [show 8 * (t.val % 4) + 2 * (b / 2) = 2 * (4 * (t.val % 4) + b / 2) by omega, a, a', ofBits_ternByte,
      show 8 * (t.val % 4) + b = 2 * (4 * (t.val % 4) + b / 2) + 1 by omega, ternVal]
    split_ifs <;> simp

theorem concat8_rows_apply (a : (j : ℕ) → j < 8 → FVec Ideal S32x256 .fp8e4m3)
    (h : Shape.Concatenates [S32x256, S32x256, S32x256, S32x256, S32x256, S32x256, S32x256, S32x256] S256x256 0) (q : Fin 256) (r : Fin 256) :
    concatenate S256x256 0 [⟨S32x256, a 0 (by omega)⟩, ⟨S32x256, a 1 (by omega)⟩, ⟨S32x256, a 2 (by omega)⟩, ⟨S32x256, a 3 (by omega)⟩,
      ⟨S32x256, a 4 (by omega)⟩, ⟨S32x256, a 5 (by omega)⟩, ⟨S32x256, a 6 (by omega)⟩, ⟨S32x256, a 7 (by omega)⟩] h (ix2 q r)
      = a (q.val / 32) (by omega) (ix2 ⟨q.val % 32, by omega⟩ r) := by
  have key (j j' : ℕ) (hj : j < 8) (hj' : j' < 8) (i i' : Fin 32) (e : j = j') (e' : i = i') : a j hj (ix2 i r) = a j' hj' (ix2 i' r) := by
    subst e; subst e'; rfl
  pointwise
  split_ifs <;> exact key _ _ _ _ _ _ (by omega) (Fin.ext (by dsimp only; omega))

theorem ternOf_apply (m s : IVec S8x256 32) (q j : Fin 256) :
    (ternOf m s : FVec Ideal S256x256 .fp8e4m3) (ix2 q j)
      = ((2 * (ternVal (m (ix2 ⟨q.val % 32 / 4, by omega⟩ j)) (s (ix2 ⟨q.val % 32 / 4, by omega⟩ j)) (8 * (q.val % 4) + q.val / 32) : ℝ) : ℝ) : EReal) := by
  refine (concat8_rows_apply (ternRow m s) _ q j).trans ?_
  rw [ternRow_apply, show q.val % 32 % 4 = q.val % 4 by omega]

theorem packG_apply (x : Vec Ideal S768x90 .i32) (n : ℕ) (hn : n < 3) (g : ℕ) (hg : g < 12) (w : Fin 8) (j : Fin 256) :
    packG (F := Ideal) (fun r => View.ld x r) n hn g hg (ix2 w j)
      = if h : 8 * g + w.val < 90 then x (ix2 ⟨256 * n + j.val, by omega⟩ ⟨8 * g + w.val, h⟩) else 0#32 := by
  have key (a b : Fin 768) (c d : Fin 90) (h : a.val = b.val) (h' : c.val = d.val) : x (ix2 a c) = x (ix2 b d) := by
    rw [Fin.ext h, Fin.ext h']
  pointwise [packG, packP, packT]
  split_ifs <;> first | rfl | omega | exact key _ _ _ _ (by dsimp only; omega) rfl

end Cert.KernelIdeal.Gen

end
-- ==== Proof.YRead.lean ====
/- The first result's stores at an index: one sum over the row's columns, times the column's factor. -/
module

public import proofs.«01_k».proof.Proof.XdRead
public import proofs.«01_k».proof.Proof.TernRead

@[expose] public section

set_option maxRecDepth 16384

noncomputable section

namespace Cert.Quant

open Idealize.ShloMosaic

/-- A sum of doubled terms is the doubled sum. -/
theorem two_mul_sum {ι : Type} (s : Finset ι) (f : ι → EReal) : ∑ k ∈ s, ((2 : ℝ) : EReal) * f k = ((2 : ℝ) : EReal) * ∑ k ∈ s, f k := by
  classical
  induction s using Finset.induction_on with
  | empty => simp
  | insert a s ha ih =>
    rw [Finset.sum_insert ha, Finset.sum_insert ha, ih,
      EReal.left_distrib_of_nonneg_of_ne_top (EReal.coe_nonneg.2 (by norm_num)) (EReal.coe_ne_top _)]

theorem ofBits_half : Ideal.ofBits .f32 0x3F000000#32 = (((1 : ℝ) / 2 : ℝ) : EReal) := by
  have h := ofBits_powWord 126 (by omega) (by omega)
  have e : powWord 126 = 0x3F000000#32 := by decide
  rw [e] at h
  rw [h]
  norm_num

/-- Column `N` of the first result at row `r`, of a row's numbers put back, the packed words and the column's factor. -/
def yVal (d : Fin 2880 → EReal) (m s : Fin 90 → BitVec 32) (a : EReal) : EReal :=
  (∑ k : Fin 2880, d k * ((ternVal (m ⟨k.val / 32, by omega⟩) (s ⟨k.val / 32, by omega⟩) (k.val % 32) : ℝ) : EReal)) * a

end Cert.Quant

namespace Cert.KernelIdeal.Gen

open Idealize.ShloMosaic Idealize.ShloMosaic.TcCoe Idealize.ShloMosaic.Tactic Cert.Quant

/-- The place the permutation brings each column to, and back. -/
def permEquiv : Fin 256 ≃ Fin 256 where
  toFun q := ⟨permCol q.val, by unfold permCol; omega⟩
  invFun p := ⟨p.val % 8 * 32 + p.val / 8, by omega⟩
  left_inv q := Fin.ext (by show permCol q.val % 8 * 32 + permCol q.val / 8 = q.val; unfold permCol; omega)
  right_inv p := Fin.ext (by show permCol (p.val % 8 * 32 + p.val / 8) = p.val; unfold permCol; omega)

/-- The weight of a row of the block at column `k`; zero past the last column. -/
def padTern (x1 x2 : (⟨2, ![768, 90]⟩ : Shape).Idx → BitVec 32) (j : Fin 768) (k : ℕ) : ℤ :=
  if h : k < 2880 then ternVal (x1 (ix2 j ⟨k / 32, by omega⟩)) (x2 (ix2 j ⟨k / 32, by omega⟩)) (k % 32) else 0

/-- One product of the sum, the weight doubled. -/
def term (x : (⟨2, ![128, 2880]⟩ : Shape).Idx → EReal) (x1 x2 : (⟨2, ![768, 90]⟩ : Shape).Idx → BitVec 32) (r : Fin 128) (j : Fin 768) (k : ℕ) : EReal :=
  padDeq x r k * ((2 * (padTern x1 x2 j k : ℝ) : ℝ) : EReal)

theorem tern_chunk (x1 x2 : Vec Ideal S768x90 .i32) (n : ℕ) (hn : n < 3) (g : ℕ) (hg : g < 12) (q j : Fin 256) :
    (ternOf (packG (F := Ideal) (fun r => View.ld x1 r) n hn g hg) (packG (F := Ideal) (fun r => View.ld x2 r) n hn g hg) : FVec Ideal S256x256 .fp8e4m3) (ix2 q j)
      = ((2 * (padTern x1 x2 ⟨256 * n + j.val, by omega⟩ (256 * g + permCol q.val) : ℝ) : ℝ) : EReal) := by
  have hk : (256 * g + permCol q.val) / 32 = 8 * g + q.val % 32 / 4 := by unfold permCol; omega
  have hm : (256 * g + permCol q.val) % 32 = 8 * (q.val % 4) + q.val / 32 := by unfold permCol; omega
  have hz (n : ℕ) : ternVal 0#32 0#32 n = 0 := by simp [ternVal]
  rw [ternOf_apply, packG_apply, packG_apply, padTern]
  by_cases h : 8 * g + q.val % 32 / 4 < 90
  · rw [dif_pos h, dif_pos h, dif_pos (by omega)]
    have e : (⟨8 * g + q.val % 32 / 4, h⟩ : Fin 90) = ⟨(256 * g + permCol q.val) / 32, by omega⟩ := Fin.ext hk.symm
    rw [show (8 * (q.val % 4) + q.val / 32) = (256 * g + permCol q.val) % 32 from hm.symm]
    rw [e]
  · rw [dif_neg h, dif_neg h, dif_neg (by omega), hz]

variable (x : Vec Ideal S128x2880 .bf16) (hx : ∀ i, InRange (x i)) (x1 x2 : Vec Ideal S768x90 .i32)
include hx

theorem chunk_sum (n : ℕ) (hn : n < 3) (g : ℕ) (hg : g < 12) (r : Fin 128) (j : Fin 256) :
    ∑ q : Fin 256, View.ld (Val := Elt Ideal) (xdOut x) (Rect.unit (s := S128x3072) ![0, 256 * g] S128x256.size (inb_xd g hg)) (ix2 r q)
        * (ternOf (packG (F := Ideal) (fun r => View.ld x1 r) n hn g hg) (packG (F := Ideal) (fun r => View.ld x2 r) n hn g hg) : FVec Ideal S256x256 .fp8e4m3) (ix2 q j)
      = ∑ k ∈ Finset.range 256, term x x1 x2 r ⟨256 * n + j.val, by omega⟩ (256 * g + k) := by
  rw [Finset.sum_range (fun k => term x x1 x2 r ⟨256 * n + j.val, by omega⟩ (256 * g + k))]
  refine Fintype.sum_equiv permEquiv _ _ (fun q => ?_)
  have e : View.ld (Val := Elt Ideal) (xdOut x) (Rect.unit (s := S128x3072) ![0, 256 * g] S128x256.size (inb_xd g hg)) (ix2 r q)
      = padDeq x r (256 * g + permCol q.val) := by
    show xdOut x ((Rect.unit (s := S128x3072) ![0, 256 * g] S128x256.size (inb_xd g hg)).emb (ix2 r q)) = _
    rw [show (Rect.unit (s := S128x3072) ![0, 256 * g] S128x256.size (inb_xd g hg)).emb (ix2 r q) = ix2 ⟨0 + r.val, by omega⟩ ⟨256 * g + q.val, by omega⟩ from
      emb_unit2 _ r q _ _, xdOut_apply x hx]
    have e1 : (⟨0 + r.val, by omega⟩ : Fin 128) = r := Fin.ext (by show 0 + r.val = r.val; omega)
    show padDeq x ⟨0 + r.val, _⟩ (256 * ((256 * g + q.val) / 256) + permCol ((256 * g + q.val) % 256)) = _
    rw [e1, show (256 * g + q.val) / 256 = g by omega, show (256 * g + q.val) % 256 = q.val by omega]
  rw [e, tern_chunk]
  rfl

theorem acc_apply (n : ℕ) (hn : n < 3) (r : Fin 128) (j : Fin 256) : (J : ℕ) → (hJ : J ≤ 12) →
    accOf (F := Ideal) (fun r => View.ld (xdOut x) r) (fun r => View.ld x1 r) (fun r => View.ld x2 r) n hn J hJ (ix2 r j)
      = ∑ k ∈ Finset.range (256 * J), term x x1 x2 r ⟨256 * n + j.val, by omega⟩ k
  | 0, _ => by
    show Ideal.ofBits .f32 0x00000000#32 = _
    rw [Ideal.ofBits_zero_f32]; rfl
  | J + 1, hJ => by
    rw [Nat.mul_succ, Finset.sum_range_add, ← acc_apply n hn r j J (by omega), ← chunk_sum x hx x1 x2 n hn J hJ r j]
    have key (a : FVec Ideal S128x256 .f32) (b : FVec Ideal S128x256 .bf16) (t : FVec Ideal S256x256 .fp8e4m3) :
        addf a (matmul (φ₁ := .bf16) (φ₂ := .fp8e4m3) dot_S128x256_S256x256_S128x256_1_0_0_1_n_n none b t (constant S128x256 .f32 0x00000000#32)) (ix2 r j)
          = a (ix2 r j) + ∑ q : Fin 256, b (ix2 r q) * t (ix2 q j) := by
      pointwise
    exact key _ _ _

theorem term_sum (r : Fin 128) (j : Fin 768) : ∑ k ∈ Finset.range (256 * 12), term x x1 x2 r j k
    = ((2 : ℝ) : EReal) * ∑ k : Fin 2880, deqVal (wordAt x r ⟨k.val / 32, by omega⟩) ⟨k.val % 32, by omega⟩
        * ((ternVal (x1 (ix2 j ⟨k.val / 32, by omega⟩)) (x2 (ix2 j ⟨k.val / 32, by omega⟩)) (k.val % 32) : ℝ) : EReal) := by
  rw [show 256 * 12 = 2880 + 192 by norm_num, Finset.sum_range_add,
    Finset.sum_eq_zero (s := Finset.range 192) (fun k _ => by rw [term, padDeq, dif_neg (by omega), zero_mul]), add_zero, Finset.sum_range, ← two_mul_sum]
  refine Finset.sum_congr rfl (fun k _ => ?_)
  rw [term, padDeq, padTern, dif_pos k.isLt, dif_pos k.isLt, EReal.coe_mul, ← mul_assoc, mul_comm (deqVal _ _), mul_assoc]

theorem yOut_apply (x3 : Vec Ideal S1x768 .bf16) (r : Fin 128) (j : Fin 768) :
    yOut (xdOut x) x1 x2 x3 (ix2 r j)
      = yVal (fun k => deqVal (wordAt x r ⟨k.val / 32, by omega⟩) ⟨k.val % 32, by omega⟩) (fun k => x1 (ix2 j k)) (fun k => x2 (ix2 j k)) (x3 (ix2 0 j)) := by
  refine canon_downTo 3 _ (fun y : S128x768.Idx => yVal (fun k => deqVal (wordAt x (y 0) ⟨k.val / 32, by omega⟩) ⟨k.val % 32, by omega⟩)
    (fun k => x1 (ix2 (y 1) k)) (fun k => x2 (ix2 (y 1) k)) (x3 (ix2 0 (y 1)))) (fun n hn z => ?_) (ix2 r j) (cover_y _ _ _ _ _)
  obtain ⟨a, b, rfl⟩ : ∃ (a : Fin 128) (b : Fin 256), z = ix2 a b := ⟨z 0, z 1, eq_ix2 z⟩
  have key (u : FVec Ideal S128x256 .f32) (A : Vec Ideal S1x256 .bf16) :
      k0_pay1 (F := Ideal) u (k0_pay943 A) (ix2 a b) = u (ix2 a b) * (A (ix2 0 b) * Ideal.ofBits .f32 0x3F000000#32) := by
    pointwise [k0_pay1, k0_pay943]
  have e : (Rect.unit (s := S128x768) ![0, 256 * n] S128x256.size (inb_y n hn)).emb (ix2 a b) = ix2 ⟨0 + a.val, by omega⟩ ⟨256 * n + b.val, by omega⟩ :=
    emb_unit2 _ a b _ _
  have e1 : (⟨0 + a.val, by omega⟩ : Fin 128) = a := Fin.ext (by show 0 + a.val = a.val; omega)
  have e3 : View.ld (Val := Elt Ideal) x3 (Rect.unit (s := S1x768) ![0, 256 * n] S1x256.size (inb_alpha n hn)) (ix2 0 b) = x3 (ix2 0 ⟨256 * n + b.val, by omega⟩) := by
    show x3 ((Rect.unit (s := S1x768) ![0, 256 * n] S1x256.size (inb_alpha n hn)).emb (ix2 0 b)) = _
    rw [show (Rect.unit (s := S1x768) ![0, 256 * n] S1x256.size (inb_alpha n hn)).emb (ix2 0 b) = ix2 ⟨0 + (0 : Fin 1).val, by omega⟩ ⟨256 * n + b.val, by omega⟩ from emb_unit2 _ 0 b _ _]
    rfl
  refine (key _ _).trans ?_
  rw [acc_apply x hx x1 x2 n hn a b 12 le_rfl, term_sum x hx x1 x2, e3, ofBits_half]
  show _ = (fun y : S128x768.Idx => yVal (fun k => deqVal (wordAt x (y 0) ⟨k.val / 32, by omega⟩) ⟨k.val % 32, by omega⟩)
    (fun k => x1 (ix2 (y 1) k)) (fun k => x2 (ix2 (y 1) k)) (x3 (ix2 0 (y 1)))) ((Rect.unit (s := S128x768) ![0, 256 * n] S128x256.size (inb_y n hn)).emb (ix2 a b))
  rw [e]
  show _ = yVal (fun k => deqVal (wordAt x ⟨0 + a.val, _⟩ _) _) (fun k => x1 (ix2 ⟨256 * n + b.val, _⟩ k)) (fun k => x2 (ix2 ⟨256 * n + b.val, _⟩ k)) (x3 (ix2 0 ⟨256 * n + b.val, _⟩))
  rw [e1, yVal]
  generalize (∑ k : Fin 2880, _ : EReal) = S
  generalize x3 (ix2 0 ⟨256 * n + b.val, by omega⟩) = A
  calc ((2 : ℝ) : EReal) * S * (A * (((1 : ℝ) / 2 : ℝ) : EReal)) = (S * A) * (((2 : ℝ) : EReal) * (((1 : ℝ) / 2 : ℝ) : EReal)) := by
        rw [mul_comm ((2 : ℝ) : EReal) S, mul_assoc, mul_assoc, mul_left_comm ((2 : ℝ) : EReal) A]
    _ = S * A := by rw [← EReal.coe_mul]; norm_num

end Cert.KernelIdeal.Gen

end
-- ==== Proof.Results.lean ====
/- The three results as functions of the four operands. -/
module

public import proofs.«01_k».proof.Proof.YRead

@[expose] public section

set_option maxRecDepth 16384

noncomputable section

namespace Cert.Quant

open Idealize.ShloMosaic

/-- The first result: each row put back, times the column's weights, times the column's factor. -/
def resY (x : (⟨2, ![128, 2880]⟩ : Shape).Idx → EReal) (M S : (⟨2, ![11520, 90]⟩ : Shape).Idx → BitVec 32) (A : (⟨2, ![1, 11520]⟩ : Shape).Idx → EReal) :
    (⟨2, ![128, 11520]⟩ : Shape).Idx → EReal := fun i =>
  yVal (fun k => deqVal (wordAt x (i 0) ⟨k.val / 32, by omega⟩) ⟨k.val % 32, by omega⟩) (fun k => M (ix2 (n0 := 11520) (i 1) k)) (fun k => S (ix2 (n0 := 11520) (i 1) k))
    (A (ix2 (n1 := 11520) 0 (i 1)))

/-- The second result: the codes. -/
def resC (x : (⟨2, ![128, 2880]⟩ : Shape).Idx → EReal) : (⟨2, ![128, 2880]⟩ : Shape).Idx → EReal := fun i =>
  codeVal (wordAt x (i 0) ⟨(i 1).val / 32, by have : (i 1).val < 2880 := (i 1).isLt; omega⟩) ⟨(i 1).val % 32, by omega⟩

/-- The third result: the scales. -/
def resS (x : (⟨2, ![128, 2880]⟩ : Shape).Idx → EReal) : (⟨2, ![128, 90]⟩ : Shape).Idx → EReal := fun i => scaleVal (wordAt x (i 0) (i 1))

end Cert.Quant

end
-- ==== Proof.KernelResults.lean ====
/- The kernel's three results as whole arrays after its run. -/
module

public import proofs.«01_k».proof.Proof.Results
public import proofs.«01_k».proof.Proof.FrameIdeal
public import Idealize.ShloMosaic.Lib.Pipeline.Value
public import Idealize.ShloMosaic.Lib.StableHlo.Run

@[expose] public section

set_option maxRecDepth 16384

noncomputable section

namespace Cert.KernelIdeal.Gen

open Idealize.ShloMosaic Idealize.ShloMosaic.TcCoe Idealize.ShloMosaic.Tactic Idealize.SL.Sem Cert.Quant
open Idealize.ShloMosaic.Pipeline (Dat)

variable (m : (ℓ : Loc nD τ sig) → Buf (Elt Ideal) ℓ) (ρ : Dev nD → PrngReg)

theorem V_v0 (c : Dev nD) : V m c main_v0 = shapeCast S128x2880 (m ((c : Thread nD τ).loc main_arg0)) shapeCasts_S1x128x2880_S128x2880 := by
  show StableHlo.after hostOps0 (fun b => m (c, b)) (Proc.devRef .tc main_v0) = _
  after_results
  rfl

theorem V_v1 (c : Dev nD) : V m c main_v1 = shapeCast S1x11520 (m ((c : Thread nD τ).loc main_arg3)) shapeCasts_S11520_S1x11520 := by
  show StableHlo.after hostOps0 (fun b => m (c, b)) (Proc.devRef .tc main_v1) = _
  after_results
  rfl

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

theorem val_lt (t : Fin cfg0.N) : t.val < 15 := lt_of_lt_of_eq t.isLt (show cfg0.N = 15 from N_0)

theorem xIn_eq (c : Dev nD) : xIn m c = V m c main_v0 := by
  obtain ⟨e0, e1⟩ := idx0 t0_0
  funext j; show V m c main_v0 (((cfg0.win 0).blk t0_0).view.emb j) = V m c main_v0 j; congr 1; funext a; apply Fin.ext
  match a with
  | ⟨0, _⟩ => show win0_0.index t0_0 (0 : Fin 2) * 128 + 1 * (j 0).val = (j 0).val; omega
  | ⟨1, _⟩ => show win0_0.index t0_0 (1 : Fin 2) * 2880 + 1 * (j 1).val = (j 1).val; omega

theorem blk1_apply (c : Dev nD) (t : Fin cfg0.N) (a : Fin 768) (b : Fin 90) (n : Fin 11520) (hn : n.val = t.val * 768 + a.val) :
    iblk m c 1 t (ix2 a b) = V m c main_arg1 (ix2 n b) := by
  obtain ⟨e0, e1⟩ := idx1 t
  show V m c main_arg1 (((cfg0.win 1).blk t).view.emb (ix2 a b)) = V m c main_arg1 (ix2 n b); congr 1; funext d; apply Fin.ext
  match d with
  | ⟨0, _⟩ => show win0_1.index t (0 : Fin 2) * 768 + 1 * a.val = n.val; omega
  | ⟨1, _⟩ => show win0_1.index t (1 : Fin 2) * 90 + 1 * b.val = b.val; omega

theorem blk2_apply (c : Dev nD) (t : Fin cfg0.N) (a : Fin 768) (b : Fin 90) (n : Fin 11520) (hn : n.val = t.val * 768 + a.val) :
    iblk m c 2 t (ix2 a b) = V m c main_arg2 (ix2 n b) := by
  obtain ⟨e0, e1⟩ := idx2 t
  show V m c main_arg2 (((cfg0.win 2).blk t).view.emb (ix2 a b)) = V m c main_arg2 (ix2 n b); congr 1; funext d; apply Fin.ext
  match d with
  | ⟨0, _⟩ => show win0_2.index t (0 : Fin 2) * 768 + 1 * a.val = n.val; omega
  | ⟨1, _⟩ => show win0_2.index t (1 : Fin 2) * 90 + 1 * b.val = b.val; omega

theorem blk3_apply (c : Dev nD) (t : Fin cfg0.N) (a : Fin 768) (n : Fin 11520) (hn : n.val = t.val * 768 + a.val) :
    iblk m c 3 t (ix2 0 a) = V m c main_v1 (ix2 0 n) := by
  obtain ⟨e0, e1⟩ := idx3 t
  show V m c main_v1 (((cfg0.win 3).blk t).view.emb (ix2 0 a)) = V m c main_v1 (ix2 0 n); congr 1; funext d; apply Fin.ext
  match d with
  | ⟨0, _⟩ => show win0_3.index t (0 : Fin 2) * 1 + 1 * 0 = 0; omega
  | ⟨1, _⟩ => show win0_3.index t (1 : Fin 2) * 768 + 1 * a.val = n.val; omega

theorem emb4 (t : Fin cfg0.N) (r : Fin 128) (a : Fin 768) (n : Fin 11520) (hn : n.val = t.val * 768 + a.val) :
    ((cfg0.win 4).blk t).view.emb (ix2 r a) = ix2 r n := by
  obtain ⟨e0, e1⟩ := idx4 t
  funext d; apply Fin.ext
  match d with
  | ⟨0, _⟩ => show win0_4.index t (0 : Fin 2) * 128 + 1 * r.val = r.val; omega
  | ⟨1, _⟩ => show win0_4.index t (1 : Fin 2) * 768 + 1 * a.val = n.val; omega

theorem emb5 (t : Fin cfg0.N) (j : S128x2880.Idx) : ((cfg0.win 5).blk t).view.emb j = j := by
  obtain ⟨e0, e1⟩ := idx5 t
  funext a; apply Fin.ext
  match a with
  | ⟨0, _⟩ => show win0_5.index t (0 : Fin 2) * 128 + 1 * (j 0).val = (j 0).val; omega
  | ⟨1, _⟩ => show win0_5.index t (1 : Fin 2) * 2880 + 1 * (j 1).val = (j 1).val; omega

theorem emb6 (t : Fin cfg0.N) (j : S128x90.Idx) : ((cfg0.win 6).blk t).view.emb j = j := by
  obtain ⟨e0, e1⟩ := idx6 t
  funext a; apply Fin.ext
  match a with
  | ⟨0, _⟩ => show win0_6.index t (0 : Fin 2) * 128 + 1 * (j 0).val = (j 0).val; omega
  | ⟨1, _⟩ => show win0_6.index t (1 : Fin 2) * 90 + 1 * (j 1).val = (j 1).val; omega

section
variable (c : Dev nD) (hx : ∀ i : S128x2880.Idx, InRange (V m c main_v0 i))
include hx

theorem cdOut_eq : cdOut (V m c main_v0) = resC (V m c main_v0) := by
  funext i
  obtain ⟨a, b, rfl⟩ : ∃ (a : Fin 128) (b : Fin 2880), i = ix2 a b := ⟨i 0, i 1, eq_ix2 i⟩
  exact cdOut_apply _ hx a b

theorem scOut_eq : scOut (V m c main_v0) = resS (V m c main_v0) := by
  funext i
  obtain ⟨a, b, rfl⟩ : ∃ (a : Fin 128) (b : Fin 90), i = ix2 a b := ⟨i 0, i 1, eq_ix2 i⟩
  exact scOut_apply _ hx a b

theorem final4 : (dats m 0 c).arrAt 4 cfg0.N = resY (V m c main_v0) (V m c main_arg1) (V m c main_arg2) (V m c main_v1) :=
  (dats m 0 c).arrAt_eq_of_cover 4 (resY (V m c main_v0) (V m c main_arg1) (V m c main_arg2) (V m c main_v1)) (fun t _ => by
    have ht := val_lt t
    show (cfg0.win 4).cut (grid0.coords t) ((dats m 0 c).after 4 t) = _
    rw [after0_4, xIn_eq]
    funext j
    obtain ⟨a, b, rfl⟩ : ∃ (a : Fin 128) (b : Fin 768), j = ix2 a b := ⟨j 0, j 1, eq_ix2 j⟩
    show yOut (xdOut (V m c main_v0)) (iblk m c 1 t) (iblk m c 2 t) (iblk m c 3 t) (ix2 a b) = resY _ _ _ _ (((cfg0.win 4).blk t).view.emb (ix2 a b))
    rw [emb4 t a b ⟨t.val * 768 + b.val, by omega⟩ rfl, yOut_apply _ hx]
    show yVal _ _ _ _ = yVal _ (fun k => V m c main_arg1 (ix2 ⟨t.val * 768 + b.val, _⟩ k)) (fun k => V m c main_arg2 (ix2 ⟨t.val * 768 + b.val, _⟩ k)) (V m c main_v1 (ix2 0 ⟨t.val * 768 + b.val, _⟩))
    have e1 : (fun k => iblk m c 1 t (ix2 b k)) = fun k => V m c main_arg1 (ix2 ⟨t.val * 768 + b.val, by omega⟩ k) := funext fun k => blk1_apply m c t b k _ rfl
    have e2 : (fun k => iblk m c 2 t (ix2 b k)) = fun k => V m c main_arg2 (ix2 ⟨t.val * 768 + b.val, by omega⟩ k) := funext fun k => blk2_apply m c t b k _ rfl
    have e3 : iblk m c 3 t (ix2 0 b) = V m c main_v1 (ix2 0 ⟨t.val * 768 + b.val, by omega⟩) := blk3_apply m c t b _ rfl
    exact (congrFun (congrArg₂ (yVal _) e1 e2) _).trans (congrArg _ e3)) fun i => by
      have h1 : (i 1 : ℕ) < 11520 := (i 1).isLt
      have hN : cfg0.N = 15 := N_0
      refine ⟨⟨(i 1 : ℕ) / 768, by omega⟩, flush0_4 _, ?_⟩
      have h := ((cfg0.win 4).blk (⟨(i 1 : ℕ) / 768, by omega⟩ : Fin cfg0.N)).view.emb_mem_set (ix2 (i 0) ⟨(i 1 : ℕ) % 768, by omega⟩ : S128x768.Idx)
      rw [emb4 _ (i 0) ⟨(i 1 : ℕ) % 768, by omega⟩ (i 1) (by show (i 1 : ℕ) = (i 1 : ℕ) / 768 * 768 + (i 1 : ℕ) % 768; omega)] at h
      rwa [show ix2 (n0 := 128) (n1 := 11520) (i 0) (i 1) = i from (eq_ix2 i).symm] at h

theorem final5 : (dats m 0 c).arrAt 5 cfg0.N = resC (V m c main_v0) :=
  (dats m 0 c).arrAt_eq_of_cover 5 (resC (V m c main_v0)) (fun t _ => by
    show (cfg0.win 5).cut (grid0.coords t) ((dats m 0 c).after 5 t) = _
    rw [after0_5, xIn_eq, cdOut_eq m c hx]
    funext j
    show resC _ j = resC _ (((cfg0.win 5).blk t).view.emb j)
    rw [emb5]) fun i => by
      have hN : cfg0.N = 15 := N_0
      refine ⟨⟨14, by omega⟩, (flush0_5 _).2 rfl, ?_⟩
      have h := ((cfg0.win 5).blk (⟨14, by omega⟩ : Fin cfg0.N)).view.emb_mem_set i
      rwa [emb5] at h

theorem final6 : (dats m 0 c).arrAt 6 cfg0.N = resS (V m c main_v0) :=
  (dats m 0 c).arrAt_eq_of_cover 6 (resS (V m c main_v0)) (fun t _ => by
    show (cfg0.win 6).cut (grid0.coords t) ((dats m 0 c).after 6 t) = _
    rw [after0_6, xIn_eq, scOut_eq m c hx]
    funext j
    show resS _ j = resS _ (((cfg0.win 6).blk t).view.emb j)
    rw [emb6]) fun i => by
      have hN : cfg0.N = 15 := N_0
      refine ⟨⟨14, by omega⟩, (flush0_6 _).2 rfl, ?_⟩
      have h := ((cfg0.win 6).blk (⟨14, by omega⟩ : Fin cfg0.N)).view.emb_mem_set i
      rwa [emb6] at h
end

/-- The run with its three results and the arguments unchanged. -/
theorem run_results (hx : ∀ (c : Dev nD) (i : S128x2880.Idx), InRange (V m c main_v0 i)) :
    θ_run defs (onTc (τ := τ) (main (F := Ideal))) ⟨m, fun _ => 0, ρ⟩ fun r => ∀ c : Dev nD,
      r.2.mem ((c.tc : Thread nD τ).loc main_v2_0) = resY (V m c main_v0) (V m c main_arg1) (V m c main_arg2) (V m c main_v1)
      ∧ r.2.mem ((c.tc : Thread nD τ).loc main_v2_1) = resC (V m c main_v0)
      ∧ r.2.mem ((c.tc : Thread nD τ).loc main_v2_2) = resS (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final4 m c (hx c)), ((h.1 c).1 5).trans (final5 m c (hx c)), ((h.1 c).1 6).trans (final6 m c (hx c)), h.2 c⟩)
    (θ_run_and (run_main m ρ) (unchanged m ρ))

end Cert.KernelIdeal.Gen

end
-- ==== Proof.RefResults.lean ====
/- The reference's results, read at an index and as whole arrays after its run. -/
module

public import proofs.«01_k».proof.Proof.Results
public import proofs.«01_k».proof.Proof.Gen.ReferenceIdeal.Frame
public import Idealize.ShloMosaic.Lib.Pipeline.Value
public import Idealize.ShloMosaic.Lib.StableHlo.Run

@[expose] public section

set_option maxRecDepth 16384

noncomputable section

namespace Cert.Quant

open Idealize.ShloMosaic

theorem bit_word (w : BitVec 32) (n : ℕ) (hn : n < 32) :
    IntOp.andi (IntOp.shrsi .vector w (BitVec.ofNat 32 n)) 1#32 = if w.getLsbD n then 1#32 else 0#32 := by
  have e : (BitVec.ofNat 32 n).toNat = n := by rw [BitVec.toNat_ofNat, Nat.mod_eq_of_lt (Nat.lt_trans hn (by decide))]
  rw [IntOp.shrsi, if_pos (by rw [e]; exact hn)]
  show (w.sshiftRight (BitVec.ofNat 32 n).toNat) &&& 1#32 = _
  rw [e]
  apply BitVec.eq_of_getLsbD_eq
  intro k hk
  rw [BitVec.getLsbD_and, BitVec.getLsbD_sshiftRight]
  rcases Nat.eq_zero_or_pos k with rfl | h
  · rw [Nat.add_zero, if_pos hn]
    cases w.getLsbD n <;> decide
  · have h1 : (1#32).getLsbD k = false := by
      rw [BitVec.getLsbD_one]; simp; omega
    have h0 : (if w.getLsbD n then 1#32 else 0#32 : BitVec 32).getLsbD k = false := by
      split
      · exact h1
      · simp
    rw [h1, h0, Bool.and_false]

/-- The reference's weight, of the two words shifted and masked, is the weight the two words hold. -/
theorem weight_val (m s : BitVec 32) (n : ℕ) (hn : n < 32) :
    FloatOps.sitofp (F := Ideal) .bf16 (IntOp.muli (IntOp.andi (IntOp.shrsi .vector m (BitVec.ofNat 32 n)) 1#32)
      (IntOp.subi 1#32 (IntOp.muli 2#32 (IntOp.andi (IntOp.shrsi .vector s (BitVec.ofNat 32 n)) 1#32)))) = ((ternVal m s n : ℝ) : EReal) := by
  rw [bit_word m n hn, bit_word s n hn, ternVal]
  show (((_ : BitVec 32).toInt : ℝ) : EReal) = _
  congr 2
  cases m.getLsbD n <;> cases s.getLsbD n <;> decide

end Cert.Quant

namespace Cert.ReferenceIdeal.Gen

open Idealize.ShloMosaic Idealize.ShloMosaic.TcCoe Idealize.ShloMosaic.Tactic Idealize.SL.Sem Cert.Quant
open Idealize.ShloMosaic.Pipeline (Dat)

theorem pay1_apply (d : FVec Ideal S128x90x32 .bf16) (M S : Vec Ideal S11520x90 .i32) (A : Vec Ideal S1x11520 .bf16) (r : Fin 128) (n : Fin 11520) :
    k0_pay1 (F := Ideal) d (iota .tc S1x1x32 32 [2] iota_S1x1x32_d2_w32) (k0_pay8 (F := Ideal) M) 1#32 S A (ix2 r n)
      = yVal (fun k => d (ix3 r ⟨k.val / 32, by omega⟩ ⟨k.val % 32, by omega⟩)) (fun k => M (ix2 n k)) (fun k => S (ix2 n k)) (A (ix2 0 n)) := by
  pointwise [k0_pay1, k0_pay8]
  rw [yVal]
  refine congrArg (fun s => s * A (ix2 0 n)) (Finset.sum_congr rfl fun k _ => congrArg _ ?_)
  exact weight_val _ _ _ (by omega)

theorem hz2 : (![0, 0] : Fin 2 → ℕ) = fun _ => 0 := funext fun a => by fin_cases a <;> rfl

variable (x0 : Vec Ideal S128x2880 .bf16) (x1 x2 : Vec Ideal S11520x90 .i32) (x3 : Vec Ideal S1x11520 .bf16)

theorem out4_eq : out0_4 x0 x1 x2 x3 = resY x0 x1 x2 x3 := by
  unfold out0_4
  rw [View.canon_unit_zero hz2, View.ld_unit_zero hz2, View.ld_unit_zero hz2, View.ld_unit_zero hz2, View.ld_unit_zero hz2]
  funext i
  obtain ⟨a, b, rfl⟩ : ∃ (a : Fin 128) (b : Fin 11520), i = ix2 a b := ⟨i 0, i 1, eq_ix2 i⟩
  rw [pay1_apply]
  show _ = yVal _ _ _ _
  congr 1
  funext k
  exact pay7_apply _ _ _ _

theorem out5_eq : out0_5 x0 x1 x2 x3 = resC x0 := by
  unfold out0_5
  rw [View.canon_unit_zero hz2, View.ld_unit_zero hz2]
  funext i
  obtain ⟨a, b, rfl⟩ : ∃ (a : Fin 128) (b : Fin 2880), i = ix2 a b := ⟨i 0, i 1, eq_ix2 i⟩
  exact pay2_apply _ _ _

theorem out6_eq : out0_6 x0 x1 x2 x3 = resS x0 := by
  unfold out0_6
  rw [View.canon_unit_zero hz2, View.ld_unit_zero hz2]
  funext i
  obtain ⟨a, b, rfl⟩ : ∃ (a : Fin 128) (b : Fin 90), i = ix2 a b := ⟨i 0, i 1, eq_ix2 i⟩
  exact pay5_apply _ _ _

variable (m : (ℓ : Loc nD τ sig) → Buf (Elt Ideal) ℓ) (ρ : Dev nD → PrngReg)

theorem V_v0 (c : Dev nD) : V m c main_v0 = shapeCast S128x2880 (m ((c : Thread nD τ).loc main_arg0)) shapeCasts_S1x128x2880_S128x2880 := by
  show StableHlo.after hostOps0 (fun b => m (c, b)) (Proc.devRef .tc main_v0) = _
  after_results
  rfl

theorem V_v1 (c : Dev nD) : V m c main_v1 = shapeCast S1x11520 (m ((c : Thread nD τ).loc main_arg3)) shapeCasts_S11520_S1x11520 := by
  show StableHlo.after hostOps0 (fun b => m (c, b)) (Proc.devRef .tc main_v1) = _
  after_results
  rfl

theorem iblk0_eq (c : Dev nD) (t : Fin cfg0.N) : iblk m c 0 t = V m c main_v0 := by
  funext j; show V m c main_v0 (((cfg0.win 0).blk t).view.emb j) = V m c main_v0 j; congr 1; funext a; apply Fin.ext
  match a with
  | ⟨0, _⟩ => show 0 * 128 + 1 * (j 0).val = (j 0).val; omega
  | ⟨1, _⟩ => show 0 * 2880 + 1 * (j 1).val = (j 1).val; omega

theorem iblk1_eq (c : Dev nD) (t : Fin cfg0.N) : iblk m c 1 t = V m c main_arg1 := by
  funext j; show V m c main_arg1 (((cfg0.win 1).blk t).view.emb j) = V m c main_arg1 j; congr 1; funext a; apply Fin.ext
  match a with
  | ⟨0, _⟩ => show 0 * 11520 + 1 * (j 0).val = (j 0).val; omega
  | ⟨1, _⟩ => show 0 * 90 + 1 * (j 1).val = (j 1).val; omega

theorem iblk2_eq (c : Dev nD) (t : Fin cfg0.N) : iblk m c 2 t = V m c main_arg2 := by
  funext j; show V m c main_arg2 (((cfg0.win 2).blk t).view.emb j) = V m c main_arg2 j; congr 1; funext a; apply Fin.ext
  match a with
  | ⟨0, _⟩ => show 0 * 11520 + 1 * (j 0).val = (j 0).val; omega
  | ⟨1, _⟩ => show 0 * 90 + 1 * (j 1).val = (j 1).val; omega

theorem iblk3_eq (c : Dev nD) (t : Fin cfg0.N) : iblk m c 3 t = V m c main_v1 := by
  funext j; show V m c main_v1 (((cfg0.win 3).blk t).view.emb j) = V m c main_v1 j; congr 1; funext a; apply Fin.ext
  match a with
  | ⟨0, _⟩ => show 0 * 1 + 1 * (j 0).val = (j 0).val; omega
  | ⟨1, _⟩ => show 0 * 11520 + 1 * (j 1).val = (j 1).val; omega

theorem emb4 (t : Fin cfg0.N) (j : S128x11520.Idx) : ((cfg0.win 4).blk t).view.emb j = j := by
  funext a; apply Fin.ext
  match a with
  | ⟨0, _⟩ => show 0 * 128 + 1 * (j 0).val = (j 0).val; omega
  | ⟨1, _⟩ => show 0 * 11520 + 1 * (j 1).val = (j 1).val; omega

theorem emb5 (t : Fin cfg0.N) (j : S128x2880.Idx) : ((cfg0.win 5).blk t).view.emb j = j := by
  funext a; apply Fin.ext
  match a with
  | ⟨0, _⟩ => show 0 * 128 + 1 * (j 0).val = (j 0).val; omega
  | ⟨1, _⟩ => show 0 * 2880 + 1 * (j 1).val = (j 1).val; omega

theorem emb6 (t : Fin cfg0.N) (j : S128x90.Idx) : ((cfg0.win 6).blk t).view.emb j = j := by
  funext a; apply Fin.ext
  match a with
  | ⟨0, _⟩ => show 0 * 128 + 1 * (j 0).val = (j 0).val; omega
  | ⟨1, _⟩ => show 0 * 90 + 1 * (j 1).val = (j 1).val; omega

theorem final4 (c : Dev nD) : (dats m 0 c).arrAt 4 cfg0.N = resY (V m c main_v0) (V m c main_arg1) (V m c main_arg2) (V m c main_v1) :=
  (dats m 0 c).arrAt_eq_of_cover 4 (resY (V m c main_v0) (V m c main_arg1) (V m c main_arg2) (V m c main_v1)) (fun t _ => by
    show (cfg0.win 4).cut (grid0.coords t) ((dats m 0 c).after 4 t) = _
    rw [after0_4, out4_eq, iblk0_eq, iblk1_eq, iblk2_eq, iblk3_eq]
    funext j
    show resY _ _ _ _ j = resY _ _ _ _ (((cfg0.win 4).blk t).view.emb j)
    rw [emb4]) fun i => ⟨(⟨0, by decide⟩ : Fin cfg0.N), flush0_4 _, by
      have h := ((cfg0.win 4).blk (⟨0, by decide⟩ : Fin cfg0.N)).view.emb_mem_set i; rwa [emb4] at h⟩

theorem final5 (c : Dev nD) : (dats m 0 c).arrAt 5 cfg0.N = resC (V m c main_v0) :=
  (dats m 0 c).arrAt_eq_of_cover 5 (resC (V m c main_v0)) (fun t _ => by
    show (cfg0.win 5).cut (grid0.coords t) ((dats m 0 c).after 5 t) = _
    rw [after0_5, out5_eq, iblk0_eq]
    funext j
    show resC _ j = resC _ (((cfg0.win 5).blk t).view.emb j)
    rw [emb5]) fun i => ⟨(⟨0, by decide⟩ : Fin cfg0.N), flush0_5 _, by
      have h := ((cfg0.win 5).blk (⟨0, by decide⟩ : Fin cfg0.N)).view.emb_mem_set i; rwa [emb5] at h⟩

theorem final6 (c : Dev nD) : (dats m 0 c).arrAt 6 cfg0.N = resS (V m c main_v0) :=
  (dats m 0 c).arrAt_eq_of_cover 6 (resS (V m c main_v0)) (fun t _ => by
    show (cfg0.win 6).cut (grid0.coords t) ((dats m 0 c).after 6 t) = _
    rw [after0_6, out6_eq, iblk0_eq]
    funext j
    show resS _ j = resS _ (((cfg0.win 6).blk t).view.emb j)
    rw [emb6]) fun i => ⟨(⟨0, by decide⟩ : Fin cfg0.N), flush0_6 _, by
      have h := ((cfg0.win 6).blk (⟨0, by decide⟩ : Fin cfg0.N)).view.emb_mem_set i; rwa [emb6] at h⟩

/-- The run with its three results and the arguments unchanged. -/
theorem run_results : θ_run defs (onTc (τ := τ) (main (F := Ideal))) ⟨m, fun _ => 0, ρ⟩ fun r => ∀ c : Dev nD,
      r.2.mem ((c.tc : Thread nD τ).loc main_v2_0) = resY (V m c main_v0) (V m c main_arg1) (V m c main_arg2) (V m c main_v1)
      ∧ r.2.mem ((c.tc : Thread nD τ).loc main_v2_1) = resC (V m c main_v0)
      ∧ r.2.mem ((c.tc : Thread nD τ).loc main_v2_2) = resS (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final4 m c), ((h.1 c).1 5).trans (final5 m c), ((h.1 c).1 6).trans (final6 m c), h.2 c⟩)
    (θ_run_and (run_main m ρ) (unchanged m ρ))

end Cert.ReferenceIdeal.Gen

end
-- ==== Proof.PreRead.lean ====
/- What the precondition says of the first argument: every element is in range. -/
module

public import proofs.«01_k».proof.Pre__in_range
public import proofs.«01_k».proof.Proof.QuantRead
public import Idealize.ShloMosaic.Lib.ReduceAll

@[expose] public section

set_option maxRecDepth 16384

noncomputable section

namespace Cert.Pre__in_range

open Idealize.ShloMosaic Cert.Quant

instance facts : Facts where
  bitsLt_bf16_f32 := by decide
  bcast_S_S1x128x2880 := by decide
  reducesTo_S1x128x2880_S_d0_1_2 := by decide
  h_S_ := by decide

theorem ofBits_inf : Ideal.ofBits .f32 0x7F800000#32 = ⊤ := by
  have e : powWord 255 = 0x7F800000#32 := by decide
  rw [← e, ofBits_powWord_top]

theorem inRange (x : FVec Ideal S1x128x2880 .bf16) (a b : IVec S11520x90 32) (d : FVec Ideal S11520 .bf16)
    (h : fn (F := Ideal) x a b d = fun _ => 1#1) (i : S1x128x2880.Idx) : InRange (x i) := by
  haveI : Subsingleton S_.Idx := ⟨fun p q => funext fun k => k.elim0⟩
  have e := Host.reduce_andi_all _ _ _ _ (Shape.Idx.first (Facts.h_S_)) (congrFun h _) i
  have e' : IntOp.ori (BitVec.ofBool (decide (FloatOps.absf (F := Ideal) (φ := .f32) (x i) ≤ Ideal.ofBits .f32 0x7F7F0000#32)))
      (BitVec.ofBool (decide (FloatOps.absf (F := Ideal) (φ := .f32) (x i) = Ideal.ofBits .f32 0x7F800000#32))) = 1#1 := e
  rw [ofBits_inf] at e'
  by_cases h1 : FloatOps.absf (F := Ideal) (φ := .f32) (x i) ≤ Ideal.ofBits .f32 0x7F7F0000#32
  · exact Or.inl h1
  · by_cases h2 : FloatOps.absf (F := Ideal) (φ := .f32) (x i) = ⊤
    · exact Or.inr h2
    · rw [decide_eq_false h1, decide_eq_false h2] at e'
      exact absurd e' (by decide)

end Cert.Pre__in_range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.FrameIdeal
public import proofs.«01_k».proof.Proof.FrameBits
public import proofs.«01_k».proof.Proof.KernelResults
public import proofs.«01_k».proof.Proof.RefResults
public import proofs.«01_k».proof.Proof.PreRead
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The precondition, of the reshaped first argument the kernel reads. -/
theorem kernel_inRange (m : (ℓ : Loc Cert.KernelIdeal.nD Cert.KernelIdeal.τ Cert.KernelIdeal.sig) → Buf (Elt Ideal) ℓ)
    (h : Cert.Pre_KernelIdeal__in_range m) (c : Dev Cert.KernelIdeal.nD) (i : Cert.KernelIdeal.S128x2880.Idx) :
    Cert.Quant.InRange (Cert.KernelIdeal.Gen.V m c Cert.KernelIdeal.main_v0 i) := by
  rw [Cert.KernelIdeal.Gen.V_v0]
  exact Cert.Pre__in_range.inRange _ _ _ _ (h c) _

/-- Over the extended reals both programs end at the same three results. -/
theorem algebraic : Cert.algebraic_KernelIdeal_ReferenceIdeal_pre__in_range := by
  intro m g m' g' hpre hagree
  have e0 (c : Dev Cert.KernelIdeal.nD) : Cert.ReferenceIdeal.Gen.V m' c Cert.ReferenceIdeal.main_v0 = Cert.KernelIdeal.Gen.V m c Cert.KernelIdeal.main_v0 := by
    rw [Cert.ReferenceIdeal.Gen.V_v0, Cert.KernelIdeal.Gen.V_v0]
    exact congrArg (fun x => shapeCast Cert.KernelIdeal.S128x2880 x Cert.KernelIdeal.Gen.shapeCasts_S1x128x2880_S128x2880) (hagree c).1
  have e1 (c : Dev Cert.KernelIdeal.nD) : Cert.ReferenceIdeal.Gen.V m' c Cert.ReferenceIdeal.main_arg1 = Cert.KernelIdeal.Gen.V m c Cert.KernelIdeal.main_arg1 :=
    (Cert.ReferenceIdeal.Gen.V_main_arg1 m' c).trans ((hagree c).2.1.trans (Cert.KernelIdeal.Gen.V_main_arg1 m c).symm)
  have e2 (c : Dev Cert.KernelIdeal.nD) : Cert.ReferenceIdeal.Gen.V m' c Cert.ReferenceIdeal.main_arg2 = Cert.KernelIdeal.Gen.V m c Cert.KernelIdeal.main_arg2 :=
    (Cert.ReferenceIdeal.Gen.V_main_arg2 m' c).trans ((hagree c).2.2.1.trans (Cert.KernelIdeal.Gen.V_main_arg2 m c).symm)
  have e3 (c : Dev Cert.KernelIdeal.nD) : Cert.ReferenceIdeal.Gen.V m' c Cert.ReferenceIdeal.main_v1 = Cert.KernelIdeal.Gen.V m c Cert.KernelIdeal.main_v1 := by
    rw [Cert.ReferenceIdeal.Gen.V_v1, Cert.KernelIdeal.Gen.V_v1]
    exact congrArg (fun x => shapeCast Cert.KernelIdeal.S1x11520 x Cert.KernelIdeal.Gen.shapeCasts_S11520_S1x11520) (hagree c).2.2.2
  refine ⟨_, _, _, Cert.KernelIdeal.Gen.run_results m g (kernel_inRange m hpre),
    (θ_run Cert.ReferenceIdeal.defs _ _).mono (fun _ h c => ⟨(h c).1.trans ?_, (h c).2.1.trans ?_, (h c).2.2.1.trans ?_, (h c).2.2.2⟩)
      (Cert.ReferenceIdeal.Gen.run_results m' g')⟩
  · exact congr (congr (congr (congrArg Cert.Quant.resY (e0 c)) (e1 c)) (e2 c)) (e3 c)
  · exact congrArg Cert.Quant.resC (e0 c)
  · exact congrArg Cert.Quant.resS (e0 c)

theorem claim : Cert.Claim := ⟨Cert.Kernel.Gen.facts, Cert.KernelIdeal.Gen.facts, Cert.ReferenceIdeal.Gen.facts, Cert.Pre__in_range.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
